-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v11_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v11_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_v20) = v4 c
          ∧ r.2.mem ((c.tc : Thread Cert.Reference2Ideal.nD Cert.Reference2Ideal.τ).loc Cert.Reference2Ideal.main_v21) = v5 c
          ∧ r.2.mem ((c.tc : Thread Cert.Reference2Ideal.nD Cert.Reference2Ideal.τ).loc Cert.Reference2Ideal.main_v22) = v6 c
          ∧ r.2.mem ((c.tc : Thread Cert.Reference2Ideal.nD Cert.Reference2Ideal.τ).loc Cert.Reference2Ideal.main_v28) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S65536x512 : Shape := ⟨2, ![65536, 512]⟩
abbrev S2x512 : Shape := ⟨2, ![2, 512]⟩
abbrev S1x512 : Shape := ⟨2, ![1, 512]⟩
abbrev S_ : Shape := ⟨0, ![]⟩
abbrev S512 : Shape := ⟨1, ![512]⟩

class Facts : Prop where
  bcast_S_S2x512 : S_.BroadcastsInDim S2x512 (![] : Fin 0 → Fin S2x512.rank)
  bcast_S_S65536x512 : S_.BroadcastsInDim S65536x512 (![] : Fin 0 → Fin S65536x512.rank)
  slices_S2x512_S1x512_0_0 : S2x512.Slices ![0, 0] S1x512
  shapeCasts_S1x512_S512 : S1x512.ShapeCasts S512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S2x512_S1x512_1_0 : S2x512.Slices ![1, 0] S1x512

variable [Facts]

def fn {F : FTy → Type} [FloatOps F] (main_arg0 : FVec F S65536x512 .f32) (main_arg1 : FVec F S65536x512 .f32) (main_arg2 : FVec F S65536x512 .f32) (main_arg3 : FVec F S65536x512 .f32) (main_arg4 : FVec F S2x512 .f32) (main_arg5 : FVec F S1x512 .f32) : IVec S65536x512 1 :=
  let main_v0 : FVec F S2x512 .f32 := Host.absf main_arg4
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_v3 : FVec F S65536x512 .f32 := Host.absf main_arg0
  let main_cst_0 : FVec F S_ .f32 := constant S_ .f32 0x7F800000#32
  let main_v4 : FVec F S65536x512 .f32 := broadcastInDim S65536x512 ![] bcast_S_S65536x512 main_cst_0
  let main_v5 : IVec S65536x512 1 := cmpf .olt main_v3 main_v4
  let main_v6 : FVec F S65536x512 .f32 := Host.absf main_arg2
  let main_cst_1 : FVec F S_ .f32 := constant S_ .f32 0x7F800000#32
  let main_v7 : FVec F S65536x512 .f32 := broadcastInDim S65536x512 ![] bcast_S_S65536x512 main_cst_1
  let main_v8 : IVec S65536x512 1 := cmpf .olt main_v6 main_v7
  let main_v9 : IVec S65536x512 1 := andi main_v5 main_v8
  let main_v10 : IVec S1x512 1 := (extractStridedSlice S1x512 ![0, 0] · slices_S2x512_S1x512_0_0) main_v2
  let main_v11 : IVec S512 1 := shapeCast S512 main_v10 shapeCasts_S1x512_S512
  let main_v12 : IVec S1x512 1 := broadcastInDim S1x512 ![1] bcast_S512_S1x512_1 main_v11
  let main_v13 : IVec S65536x512 1 := broadcastInDim S65536x512 ![0, 1] bcast_S1x512_S65536x512_0_1 main_v12
  let main_v14 : IVec S65536x512 1 := andi main_v9 main_v13
  let main_v15 : IVec S1x512 1 := (extractStridedSlice S1x512 ![1, 0] · slices_S2x512_S1x512_1_0) main_v2
  let main_v16 : IVec S512 1 := shapeCast S512 main_v15 shapeCasts_S1x512_S512
  let main_v17 : IVec S1x512 1 := broadcastInDim S1x512 ![1] bcast_S512_S1x512_1 main_v16
  let main_v18 : IVec S65536x512 1 := broadcastInDim S65536x512 ![0, 1] bcast_S1x512_S65536x512_0_1 main_v17
  let main_v19 : IVec S65536x512 1 := andi main_v14 main_v18
  main_v19
-- ==== Kernel.lean ====
abbrev S65536x512 : Shape := ⟨2, ![65536, 512]⟩
abbrev S2x512 : Shape := ⟨2, ![2, 512]⟩
abbrev S1x512 : Shape := ⟨2, ![1, 512]⟩
abbrev S_ : Shape := ⟨0, ![]⟩
abbrev S512 : Shape := ⟨1, ![512]⟩
abbrev S512x65536 : Shape := ⟨2, ![512, 65536]⟩
abbrev S32x2048x512 : Shape := ⟨3, ![32, 2048, 512]⟩
abbrev S1x2048x128 : Shape := ⟨3, ![1, 2048, 128]⟩
abbrev S128x2048 : Shape := ⟨2, ![128, 2048]⟩
abbrev S1x128 : Shape := ⟨2, ![1, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 35
  | .vmem => 18
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S65536x512, .f32⟩
  | .hbm, ⟨4, _⟩ => ⟨S2x512, .f32⟩
  | .hbm, ⟨5, _⟩ => ⟨S1x512, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S512, .f32⟩
  | .hbm, ⟨17, _⟩ => ⟨S1x512, .f32⟩
  | .hbm, ⟨18, _⟩ => ⟨S2x512, .f32⟩
  | .hbm, ⟨19, _⟩ => ⟨S2x512, .f32⟩
  | .hbm, ⟨20, _⟩ => ⟨S_, .f32⟩
  | .hbm, ⟨21, _⟩ => ⟨S_, .f32⟩
  | .hbm, ⟨22, _⟩ => ⟨S2x512, .f32⟩
  | .hbm, ⟨23, _⟩ => ⟨S512x65536, .f32⟩
  | .hbm, ⟨24, _⟩ => ⟨S512x65536, .bf16⟩
  | .hbm, ⟨25, _⟩ => ⟨S1x512, .f32⟩
  | .hbm, ⟨26, _⟩ => ⟨S512, .f32⟩
  | .hbm, ⟨27, _⟩ => ⟨S512, .f32⟩
  | .hbm, ⟨28, _⟩ => ⟨S32x2048x512, .f32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S1x512, .f32⟩
  | .hbm, ⟨33, _⟩ => ⟨S1x512, .f32⟩
  | .hbm, ⟨34, _⟩ => ⟨S32x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S128x2048, .bf16⟩
  | .local _ .vmem, ⟨9, _⟩ => ⟨S128x2048, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x2048x128, .bf16⟩
  | .local _ .vmem, ⟨15, _⟩ => ⟨S1x2048x128, .bf16⟩
  | .local _ .vmem, ⟨16, _⟩ => ⟨S128x128, .f32⟩
  | .local _ .vmem, ⟨17, _⟩ => ⟨S128x128, .i32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_call0_cst : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32_22 : BitVec 32 := 0#32
  let c16_i32_23 : BitVec 32 := 16#32
  let v71 : BitVec 32 := Scalar.addi c0_i32_22 c16_i32_23
  let c1_i32_24 : BitVec 32 := 1#32
  ⟨c0_i32_22, v71, c1_i32_24⟩
def k0_mult1 (k0_t1 : Fin k0_t1_loop.trips) : BitVec 32 :=
  let c0_i32_22 : BitVec 32 := 0#32
  let c1_i32_24 : BitVec 32 := 1#32
  let arg12 : BitVec 32 := Scf.iv c0_i32_22 c1_i32_24 k0_t1
  let c128_i32 : BitVec 32 := 128#32
  let v72 : BitVec 32 := Scalar.muli arg12 c128_i32
  v72
def k0_off1 (k0_t1 : Fin k0_t1_loop.trips) : Fin 3 → Nat :=
  let c0_26 : Index := 0#32
  let c0_i32_22 : BitVec 32 := 0#32
  let c1_i32_24 : BitVec 32 := 1#32
  let arg12 : BitVec 32 := Scf.iv c0_i32_22 c1_i32_24 k0_t1
  let c128_i32 : BitVec 32 := 128#32
  let v72 : BitVec 32 := Scalar.muli arg12 c128_i32
  let v73 : BitVec 32 := v72
  let v74 : Index := Scalar.indexCast v73
  let c0_27 : Index := 0#32
  ![0, v74.toNat, 0]
def k0_off2 (k0_t1 : Fin k0_t1_loop.trips) : Fin 2 → Nat :=
  let c0_65 : Index := 0#32
  let c0_i32_22 : BitVec 32 := 0#32
  let c1_i32_24 : BitVec 32 := 1#32
  let arg12 : BitVec 32 := Scf.iv c0_i32_22 c1_i32_24 k0_t1
  let c128_i32 : BitVec 32 := 128#32
  let v72 : BitVec 32 := Scalar.muli arg12 c128_i32
  let v73 : BitVec 32 := v72
  let v168 : Index := Scalar.indexCast v73
  ![0, v168.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S65536x512 : Shape := ⟨2, ![65536, 512]⟩
abbrev S2x512 : Shape := ⟨2, ![2, 512]⟩
abbrev S1x512 : Shape := ⟨2, ![1, 512]⟩
abbrev S_ : Shape := ⟨0, ![]⟩
abbrev S512 : Shape := ⟨1, ![512]⟩
abbrev S32x2048x512 : Shape := ⟨3, ![32, 2048, 512]⟩
abbrev S1x1x512 : Shape := ⟨3, ![1, 1, 512]⟩
abbrev S64x64 : Shape := ⟨2, ![64, 64]⟩
abbrev S32x4x128x128 : Shape := ⟨4, ![32, 4, 128, 128]⟩
abbrev S32x32x64x4x128 : Shape := ⟨5, ![32, 32, 64, 4, 128]⟩
abbrev S32x32x4x64x128 : Shape := ⟨5, ![32, 32, 4, 64, 128]⟩
abbrev S1x32x4x64x128 : Shape := ⟨5, ![1, 32, 4, 64, 128]⟩
abbrev S32x4x64x128 : Shape := ⟨4, ![32, 4, 64, 128]⟩
abbrev S32x4x64x1x128 : Shape := ⟨5, ![32, 4, 64, 1, 128]⟩
abbrev S32x4x1x64x128 : Shape := ⟨5, ![32, 4, 1, 64, 128]⟩
abbrev S32x4x64x64x128 : Shape := ⟨5, ![32, 4, 64, 64, 128]⟩
abbrev S1x1x64x64x1 : Shape := ⟨5, ![1, 1, 64, 64, 1]⟩
abbrev S32x4x64x64 : Shape := ⟨4, ![32, 4, 64, 64]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x2048x4x128 : Shape := ⟨4, ![32, 2048, 4, 128]⟩
abbrev S4x128 : Shape := ⟨2, ![4, 128]⟩
abbrev S32x2048x4 : Shape := ⟨3, ![32, 2048, 4]⟩
abbrev S32x2048x4x1 : Shape := ⟨4, ![32, 2048, 4, 1]⟩
abbrev S1x1x4x128 : Shape := ⟨4, ![1, 1, 4, 128]⟩

abbrev nBuf : Space → Nat
  | .hbm => 201
  | .vmem => 0
  | .smem => 0
  | _ => 0

abbrev hbmTy0_0 (i : Nat) : BufTy := match i % 128 with
  | 0 => ⟨S65536x512, .f32⟩
  | 1 => ⟨S65536x512, .f32⟩
  | 2 => ⟨S65536x512, .f32⟩
  | 3 => ⟨S65536x512, .f32⟩
  | 4 => ⟨S2x512, .f32⟩
  | 5 => ⟨S1x512, .f32⟩
  | 6 => ⟨S_, .f32⟩
  | 7 => ⟨S512, .f32⟩
  | 8 => ⟨S_, .f32⟩
  | 9 => ⟨S512, .f32⟩
  | 10 => ⟨S512, .f32⟩
  | 11 => ⟨S1x512, .f32⟩
  | 12 => ⟨S2x512, .f32⟩
  | 13 => ⟨S2x512, .f32⟩
  | 14 => ⟨S2x512, .f32⟩
  | 15 => ⟨S_, .f32⟩
  | 16 => ⟨S512, .f32⟩
  | 17 => ⟨S1x512, .f32⟩
  | 18 => ⟨S2x512, .f32⟩
  | 19 => ⟨S2x512, .f32⟩
  | 20 => ⟨S_, .f32⟩
  | 21 => ⟨S_, .f32⟩
  | 22 => ⟨S2x512, .f32⟩
  | 23 => ⟨S1x512, .f32⟩
  | 24 => ⟨S512, .f32⟩
  | 25 => ⟨S32x2048x512, .f32⟩
  | 26 => ⟨S32x2048x512, .f32⟩
  | 27 => ⟨S32x2048x512, .f32⟩
  | 28 => ⟨S32x2048x512, .f32⟩
  | 29 => ⟨S_, .f32⟩
  | 30 => ⟨S512, .f32⟩
  | 31 => ⟨S512, .f32⟩
  | 32 => ⟨S32x2048x512, .f32⟩
  | 33 => ⟨S32x2048x512, .f32⟩
  | 34 => ⟨S_, .f32⟩
  | 35 => ⟨S32x2048x512, .f32⟩
  | 36 => ⟨S32x2048x512, .f32⟩
  | 37 => ⟨S_, .f32⟩
  | 38 => ⟨S32x2048x512, .f32⟩
  | 39 => ⟨S32x2048x512, .f32⟩
  | 40 => ⟨S1x1x512, .f32⟩
  | 41 => ⟨S32x2048x512, .f32⟩
  | 42 => ⟨S32x2048x512, .f32⟩
  | 43 => ⟨S1x1x512, .f32⟩
  | 44 => ⟨S32x2048x512, .f32⟩
  | 45 => ⟨S32x2048x512, .f32⟩
  | 46 => ⟨S32x2048x512, .f32⟩
  | 47 => ⟨S_, .f32⟩
  | 48 => ⟨S32x2048x512, .f32⟩
  | 49 => ⟨S32x2048x512, .f32⟩
  | 50 => ⟨S32x2048x512, .f32⟩
  | 51 => ⟨S32x2048x512, .f32⟩
  | 52 => ⟨S_, .f32⟩
  | 53 => ⟨S32x2048x512, .f32⟩
  | 54 => ⟨S32x2048x512, .f32⟩
  | 55 => ⟨S_, .f32⟩
  | 56 => ⟨S32x2048x512, .f32⟩
  | 57 => ⟨S32x2048x512, .f32⟩
  | 58 => ⟨S32x2048x512, .f32⟩
  | 59 => ⟨S_, .i1⟩
  | 60 => ⟨S64x64, .i1⟩
  | 61 => ⟨S64x64, .i32⟩
  | 62 => ⟨S_, .i32⟩
  | 63 => ⟨S64x64, .i32⟩
  | 64 => ⟨S64x64, .i32⟩
  | 65 => ⟨S64x64, .i32⟩
  | 66 => ⟨S64x64, .i1⟩
  | 67 => ⟨S_, .i1⟩
  | 68 => ⟨S64x64, .i1⟩
  | 69 => ⟨S64x64, .i1⟩
  | 70 => ⟨S_, .f32⟩
  | 71 => ⟨S32x4x128x128, .f32⟩
  | 72 => ⟨S32x32x64x4x128, .f32⟩
  | 73 => ⟨S32x32x4x64x128, .f32⟩
  | 74 => ⟨S32x32x64x4x128, .f32⟩
  | 75 => ⟨S32x32x4x64x128, .f32⟩
  | 76 => ⟨S32x32x64x4x128, .f32⟩
  | 77 => ⟨S32x32x4x64x128, .f32⟩
  | 78 => ⟨S32x32x64x4x128, .f32⟩
  | 79 => ⟨S32x32x4x64x128, .f32⟩
  | 80 => ⟨S_, .f32⟩
  | 81 => ⟨S32x32x4x64x128, .f32⟩
  | 82 => ⟨S_, .i32⟩
  | 83 => ⟨S32x32x4x64x128, .f32⟩
  | 84 => ⟨S32x32x4x64x128, .f32⟩
  | 85 => ⟨S32x32x4x64x128, .f32⟩
  | 86 => ⟨S32x32x4x64x128, .f32⟩
  | 87 => ⟨S64x64, .i1⟩
  | 88 => ⟨S_, .i32⟩
  | 89 => ⟨S32x4x128x128, .f32⟩
  | 90 => ⟨S32x32x4x64x128, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1x32x4x64x128, .f32⟩
  | 98 => ⟨S32x4x64x128, .f32⟩
  | 99 => ⟨S_, .i32⟩
  | 100 => ⟨S_, .i32⟩
  | 101 => ⟨S_, .i32⟩
  | 102 => ⟨S_, .i32⟩
  | 103 => ⟨S1x32x4x64x128, .f32⟩
  | 104 => ⟨S32x4x64x128, .f32⟩
  | 105 => ⟨S_, .i32⟩
  | 106 => ⟨S_, .i32⟩
  | 107 => ⟨S_, .i32⟩
  | 108 => ⟨S_, .i32⟩
  | 109 => ⟨S1x32x4x64x128, .f32⟩
  | 110 => ⟨S32x4x64x128, .f32⟩
  | 111 => ⟨S_, .i32⟩
  | 112 => ⟨S_, .i32⟩
  | 113 => ⟨S_, .i32⟩
  | 114 => ⟨S_, .i32⟩
  | 115 => ⟨S1x32x4x64x128, .f32⟩
  | 116 => ⟨S32x4x64x128, .f32⟩
  | 117 => ⟨S_, .f32⟩
  | 118 => ⟨S_, .f32⟩
  | 119 => ⟨S32x4x64x128, .f32⟩
  | 120 => ⟨S32x4x64x1x128, .f32⟩
  | 121 => ⟨S32x4x1x64x128, .f32⟩
  | 122 => ⟨S32x4x64x64x128, .f32⟩
  | 123 => ⟨S32x4x64x64x128, .f32⟩
  | 124 => ⟨S32x4x64x64x128, .f32⟩
  | 125 => ⟨S1x1x64x64x1, .i1⟩
  | 126 => ⟨S_, .f32⟩
  | 127 => ⟨S32x4x64x64x128, .f32⟩
  | _ => ⟨S65536x512, .f32⟩

abbrev hbmTy0_1 (i : Nat) : BufTy := match i % 128 with
  | 0 => ⟨S32x4x64x64x128, .f32⟩
  | 1 => ⟨S32x4x64x64x128, .f32⟩
  | 2 => ⟨S_, .f32⟩
  | 3 => ⟨S_, .f32⟩
  | 4 => ⟨S32x4x64x64x128, .i1⟩
  | 5 => ⟨S32x4x64x64x128, .f32⟩
  | 6 => ⟨S32x4x64x64x128, .f32⟩
  | 7 => ⟨S32x4x64x1x128, .f32⟩
  | 8 => ⟨S32x4x64x64x128, .f32⟩
  | 9 => ⟨S32x4x64x64x128, .f32⟩
  | 10 => ⟨S32x4x1x64x128, .f32⟩
  | 11 => ⟨S32x4x64x64x128, .f32⟩
  | 12 => ⟨S32x4x64x64x128, .f32⟩
  | 13 => ⟨S_, .f32⟩
  | 14 => ⟨S32x4x64x64, .f32⟩
  | 15 => ⟨S32x4x64x128, .f32⟩
  | 16 => ⟨S32x4x64x128, .f32⟩
  | 17 => ⟨S32x4x64x128, .f32⟩
  | 18 => ⟨S32x4x64x128, .f32⟩
  | 19 => ⟨S32x4x64x128, .f32⟩
  | 20 => ⟨S32x4x1x128, .f32⟩
  | 21 => ⟨S32x4x128, .f32⟩
  | 22 => ⟨S32x4x128, .f32⟩
  | 23 => ⟨S32x4x128x1, .f32⟩
  | 24 => ⟨S32x4x128x128, .f32⟩
  | 25 => ⟨S32x4x128x128, .f32⟩
  | 26 => ⟨S32x4x64x128, .f32⟩
  | 27 => ⟨S32x4x64x128, .f32⟩
  | 28 => ⟨S32x4x64x128, .f32⟩
  | 29 => ⟨S32x4x64x128, .f32⟩
  | 30 => ⟨S32x4x128x128, .f32⟩
  | 31 => ⟨S32x4x128x128, .f32⟩
  | 32 => ⟨S1x32x4x64x128, .f32⟩
  | 33 => ⟨S_, .i32⟩
  | 34 => ⟨S_, .i32⟩
  | 35 => ⟨S_, .i32⟩
  | 36 => ⟨S_, .i32⟩
  | 37 => ⟨S32x32x4x64x128, .f32⟩
  | 38 => ⟨S_, .i32⟩
  | 39 => ⟨S_, .i32⟩
  | 40 => ⟨S32x32x64x4x128, .f32⟩
  | 41 => ⟨S32x2048x4x128, .f32⟩
  | 42 => ⟨S512, .f32⟩
  | 43 => ⟨S4x128, .f32⟩
  | 44 => ⟨S32x2048x4x128, .f32⟩
  | 45 => ⟨S_, .f32⟩
  | 46 => ⟨S32x2048x4, .f32⟩
  | 47 => ⟨S32x2048x4x1, .f32⟩
  | 48 => ⟨S_, .f32⟩
  | 49 => ⟨S32x2048x4x1, .f32⟩
  | 50 => ⟨S32x2048x4x1, .f32⟩
  | 51 => ⟨S_, .f32⟩
  | 52 => ⟨S32x2048x4x1, .f32⟩
  | 53 => ⟨S32x2048x4x1, .f32⟩
  | 54 => ⟨S32x2048x4x1, .f32⟩
  | 55 => ⟨S32x2048x4x128, .f32⟩
  | 56 => ⟨S32x2048x4x128, .f32⟩
  | 57 => ⟨S1x1x4x128, .f32⟩
  | 58 => ⟨S32x2048x4x128, .f32⟩
  | 59 => ⟨S32x2048x4x128, .f32⟩
  | 60 => ⟨S32x2048x512, .f32⟩
  | 61 => ⟨S32x2048x512, .f32⟩
  | 62 => ⟨S_, .f32⟩
  | 63 => ⟨S32x2048x512, .f32⟩
  | 64 => ⟨S32x2048x512, .f32⟩
  | 65 => ⟨S_, .f32⟩
  | 66 => ⟨S32x2048x512, .f32⟩
  | 67 => ⟨S32x2048x512, .f32⟩
  | 68 => ⟨S32x2048x512, .f32⟩
  | 69 => ⟨S32x2048x4x128, .f32⟩
  | 70 => ⟨S32x2048x4x128, .f32⟩
  | 71 => ⟨S32x2048x512, .f32⟩
  | 72 => ⟨S32x2048x512, .bf16⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_call0_cst : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v35 : Ref sig .tc := ⟨.hbm, 58, rfl⟩
abbrev main_c : Ref sig .tc := ⟨.hbm, 59, rfl⟩
abbrev main_v36 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_0 : Ref sig .tc := ⟨.hbm, 67, rfl⟩
abbrev main_call2_v5 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_7 : Ref sig .tc := ⟨.hbm, 80, rfl⟩
abbrev main_v47 : Ref sig .tc := ⟨.hbm, 81, rfl⟩
abbrev main_c_8 : Ref sig .tc := ⟨.hbm, 82, rfl⟩
abbrev main_v48_0 : Ref sig .tc := ⟨.hbm, 83, rfl⟩
abbrev main_v48_1 : Ref sig .tc := ⟨.hbm, 84, rfl⟩
abbrev main_v48_2 : Ref sig .tc := ⟨.hbm, 85, rfl⟩
abbrev main_v48_3 : Ref sig .tc := ⟨.hbm, 86, rfl⟩
abbrev main_v48_4 : Ref sig .tc := ⟨.hbm, 87, rfl⟩
abbrev main_v48_5 : Ref sig .tc := ⟨.hbm, 88, rfl⟩
abbrev main_v48_6 : Ref sig .tc := ⟨.hbm, 89, rfl⟩
abbrev main_v48_7 : Ref sig .tc := ⟨.hbm, 90, rfl⟩
abbrev main_while0c_c_19 : Ref sig .tc := ⟨.hbm, 91, rfl⟩
abbrev main_while0c_v71 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_v0 : Ref sig .tc := ⟨.hbm, 97, rfl⟩
abbrev main_while0b_v71 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v72 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_c_2 : Ref sig .tc := ⟨.hbm, 108, rfl⟩
abbrev main_while0b_call5_v0 : Ref sig .tc := ⟨.hbm, 109, rfl⟩
abbrev main_while0b_v73 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_call6_c_2 : Ref sig .tc := ⟨.hbm, 114, rfl⟩
abbrev main_while0b_call6_v0 : Ref sig .tc := ⟨.hbm, 115, rfl⟩
abbrev main_while0b_v74 : Ref sig .tc := ⟨.hbm, 116, rfl⟩
abbrev main_while0b_call7_call0_cst : Ref sig .tc := ⟨.hbm, 117, rfl⟩
abbrev main_while0b_call7_call0_v0 : Ref sig .tc := ⟨.hbm, 118, rfl⟩
abbrev main_while0b_v75 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_cst_19 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_cst_20 : Ref sig .tc := ⟨.hbm, 130, rfl⟩
abbrev main_while0b_call8_v0 : Ref sig .tc := ⟨.hbm, 131, rfl⟩
abbrev main_while0b_call8_v1 : Ref sig .tc := ⟨.hbm, 132, rfl⟩
abbrev main_while0b_call8_v2 : Ref sig .tc := ⟨.hbm, 133, rfl⟩
abbrev main_while0b_v85 : Ref sig .tc := ⟨.hbm, 134, rfl⟩
abbrev main_while0b_v86 : Ref sig .tc := ⟨.hbm, 135, rfl⟩
abbrev main_while0b_v87 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_v91 : Ref sig .tc := ⟨.hbm, 140, rfl⟩
abbrev main_while0b_cst_21 : Ref sig .tc := ⟨.hbm, 141, rfl⟩
abbrev main_while0b_v92 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_call9_v0 : Ref sig .tc := ⟨.hbm, 160, rfl⟩
abbrev main_while0b_call9_c : Ref sig .tc := ⟨.hbm, 161, rfl⟩
abbrev main_while0b_call9_c_0 : Ref sig .tc := ⟨.hbm, 162, rfl⟩
abbrev main_while0b_call9_c_1 : Ref sig .tc := ⟨.hbm, 163, rfl⟩
abbrev main_while0b_call9_c_2 : Ref sig .tc := ⟨.hbm, 164, rfl⟩
abbrev main_while0b_v110 : Ref sig .tc := ⟨.hbm, 165, rfl⟩
abbrev main_while0b_c_22 : Ref sig .tc := ⟨.hbm, 166, rfl⟩
abbrev main_while0b_v111 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_v53 : Ref sig .tc := ⟨.hbm, 172, rfl⟩
abbrev main_cst_9 : Ref sig .tc := ⟨.hbm, 173, rfl⟩
abbrev main_v54 : Ref sig .tc := ⟨.hbm, 174, rfl⟩
abbrev main_v55 : Ref sig .tc := ⟨.hbm, 175, rfl⟩
abbrev main_cst_10 : Ref sig .tc := ⟨.hbm, 176, rfl⟩
abbrev main_v56 : Ref sig .tc := ⟨.hbm, 177, rfl⟩
abbrev main_v57 : Ref sig .tc := ⟨.hbm, 178, rfl⟩
abbrev main_cst_11 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_call10_v0 : Ref sig .tc := ⟨.hbm, 188, rfl⟩
abbrev main_call10_v1 : Ref sig .tc := ⟨.hbm, 189, rfl⟩
abbrev main_call10_cst : Ref sig .tc := ⟨.hbm, 190, rfl⟩
abbrev main_call10_v2 : Ref sig .tc := ⟨.hbm, 191, rfl⟩
abbrev main_call10_v3 : Ref sig .tc := ⟨.hbm, 192, rfl⟩
abbrev main_call10_cst_0 : Ref sig .tc := ⟨.hbm, 193, rfl⟩
abbrev main_call10_v4 : Ref sig .tc := ⟨.hbm, 194, rfl⟩
abbrev main_call10_v5 : Ref sig .tc := ⟨.hbm, 195, rfl⟩
abbrev main_v66 : Ref sig .tc := ⟨.hbm, 196, rfl⟩
abbrev main_v67 : Ref sig .tc := ⟨.hbm, 197, rfl⟩
abbrev main_v68 : Ref sig .tc := ⟨.hbm, 198, rfl⟩
abbrev main_v69 : Ref sig .tc := ⟨.hbm, 199, rfl⟩
abbrev main_v70 : Ref sig .tc := ⟨.hbm, 200, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S65536x1024 : Shape := ⟨2, ![65536, 1024]⟩
abbrev S1x1024 : Shape := ⟨2, ![1, 1024]⟩
abbrev S1x1024x3584 : Shape := ⟨3, ![1, 1024, 3584]⟩
abbrev S1024 : Shape := ⟨1, ![1024]⟩
abbrev S1024x3584 : Shape := ⟨2, ![1024, 3584]⟩
abbrev S1024x512 : Shape := ⟨2, ![1024, 512]⟩
abbrev S1024x2048 : Shape := ⟨2, ![1024, 2048]⟩
abbrev S512x1024 : Shape := ⟨2, ![512, 1024]⟩
abbrev S65536x512 : Shape := ⟨2, ![65536, 512]⟩
abbrev S512x65536 : Shape := ⟨2, ![512, 65536]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 24
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x3584, .f32⟩
  | .hbm, ⟨3, _⟩ => ⟨S1024, .f32⟩
  | .hbm, ⟨4, _⟩ => ⟨S1024x3584, .f32⟩
  | .hbm, ⟨5, _⟩ => ⟨S1024x3584, .bf16⟩
  | .hbm, ⟨6, _⟩ => ⟨S1024x512, .bf16⟩
  | .hbm, ⟨7, _⟩ => ⟨S1024x512, .bf16⟩
  | .hbm, ⟨8, _⟩ => ⟨S1024x512, .bf16⟩
  | .hbm, ⟨9, _⟩ => ⟨S1024x2048, .bf16⟩
  | .hbm, ⟨10, _⟩ => ⟨S1024x512, .bf16⟩
  | .hbm, ⟨11, _⟩ => ⟨S1x1024, .f32⟩
  | .hbm, ⟨12, _⟩ => ⟨S512x1024, .bf16⟩
  | .hbm, ⟨13, _⟩ => ⟨S512x1024, .bf16⟩
  | .hbm, ⟨14, _⟩ => ⟨S65536x512, .bf16⟩
  | .hbm, ⟨15, _⟩ => ⟨S65536x512, .bf16⟩
  | .hbm, ⟨16, _⟩ => ⟨S512x65536, .bf16⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S512x65536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S1024x2048, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v11_3 : Ref sig .tc := ⟨.hbm, 17, rfl⟩
abbrev main_v11_4 : Ref sig .tc := ⟨.hbm, 18, rfl⟩
abbrev main_v11_5 : Ref sig .tc := ⟨.hbm, 19, rfl⟩
abbrev main_v11_6 : Ref sig .tc := ⟨.hbm, 20, rfl⟩
abbrev main_v11_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S65536x1024 : Shape := ⟨2, ![65536, 1024]⟩
abbrev S1x1024 : Shape := ⟨2, ![1, 1024]⟩
abbrev S1x1024x3584 : Shape := ⟨3, ![1, 1024, 3584]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x3584 : Shape := ⟨2, ![1024, 3584]⟩
abbrev S65536x3584 : Shape := ⟨2, ![65536, 3584]⟩
abbrev S65536x512 : Shape := ⟨2, ![65536, 512]⟩
abbrev S512x65536 : Shape := ⟨2, ![512, 65536]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x3584, .f32⟩
  | .hbm, ⟨3, _⟩ => ⟨S1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x3584, .f32⟩
  | .hbm, ⟨21, _⟩ => ⟨S65536x3584, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .bf16⟩
  | .hbm, ⟨30, _⟩ => ⟨S65536x512, .bf16⟩
  | .hbm, ⟨31, _⟩ => ⟨S512x65536, .f32⟩
  | .hbm, ⟨32, _⟩ => ⟨S512x65536, .bf16⟩
  | .hbm, ⟨33, _⟩ => ⟨S512x65536, .f32⟩
  | .hbm, ⟨34, _⟩ => ⟨S512x65536, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel3.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1024x1024 : Shape := ⟨2, ![1024, 1024]⟩
abbrev S1024 : Shape := ⟨1, ![1024]⟩
abbrev S1024x2048 : Shape := ⟨2, ![1024, 2048]⟩
abbrev S512x1024 : Shape := ⟨2, ![512, 1024]⟩
abbrev S1024x65536 : Shape := ⟨2, ![1024, 65536]⟩
abbrev S65536x2048 : Shape := ⟨2, ![65536, 2048]⟩
abbrev S512x512 : Shape := ⟨2, ![512, 512]⟩
abbrev S1024x512 : Shape := ⟨2, ![1024, 512]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x2048, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S1024x1024, .bf16⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S65536x1024, .f32⟩
  | .hbm, ⟨15, _⟩ => ⟨S1024x65536, .fp8e4m3⟩
  | .hbm, ⟨16, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2048, .bf16⟩
  | .local _ .vmem, ⟨10, _⟩ => ⟨S512x1024, .f32⟩
  | .local _ .vmem, ⟨11, _⟩ => ⟨S512x1024, .f32⟩
  | .local _ .vmem, ⟨12, _⟩ => ⟨S1024x512, .fp8e4m3⟩
  | .local _ .vmem, ⟨13, _⟩ => ⟨S1024x512, .fp8e4m3⟩
  | .local _ .vmem, ⟨14, _⟩ => ⟨S512x2048, .bf16⟩
  | .local _ .vmem, ⟨15, _⟩ => ⟨S512x2048, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x2048 : Shape := ⟨2, ![1024, 2048]⟩
abbrev S65536x2048 : Shape := ⟨2, ![65536, 2048]⟩
abbrev S1024x65536 : Shape := ⟨2, ![1024, 65536]⟩

abbrev nBuf : Space → Nat
  | .hbm => 34
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x2048, .f32⟩
  | .hbm, ⟨6, _⟩ => ⟨S65536x512, .f32⟩
  | .hbm, ⟨7, _⟩ => ⟨S65536x512, .f32⟩
  | .hbm, ⟨8, _⟩ => ⟨S65536x1024, .f32⟩
  | .hbm, ⟨9, _⟩ => ⟨S1024x1024, .f32⟩
  | .hbm, ⟨10, _⟩ => ⟨S65536x1024, .f32⟩
  | .hbm, ⟨11, _⟩ => ⟨S65536x1024, .f32⟩
  | .hbm, ⟨12, _⟩ => ⟨S1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S1024x2048, .f32⟩
  | .hbm, ⟨30, _⟩ => ⟨S65536x2048, .f32⟩
  | .hbm, ⟨31, _⟩ => ⟨S1024x65536, .f32⟩
  | .hbm, ⟨32, _⟩ => ⟨S1024x65536, .fp8e4m3⟩
  | .hbm, ⟨33, _⟩ => ⟨S65536x2048, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.HgrnFrame.lean ====
module

public import proofs.«01_k».proof.Proof.Gen.Kernel.Frame.Runs
public import Idealize.ShloMosaic.Lib.Claim

/-!
  The recurrence's kernel, as `Kernel`: every run ends with the arguments unchanged and the counters at zero.
  Of the output nothing is said here.  The loop is gone through by the pieces each trip stores.
-/

@[expose] public section

set_option maxRecDepth 16384

noncomputable section

namespace Cert.Proof.HgrnFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging buffers: inputs kept, the output and the scratch handed back at some contents. -/
theorem body_run (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S128x2048 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S128x128 .f32) (harg10 : arg10.IsWhole) (arg11 : Memref sig .tc .vmem S128x128 .i32) (harg11 : arg11.IsWhole)
    (x0 : Vec F S1x2048x128 .f32) (x1 : Vec F S1x2048x128 .f32) (x2 : Vec F S1x2048x128 .f32) (x3 : Vec F S1x2048x128 .f32) (x4 : Vec F S128x2048 .bf16) (x5 : Vec F S1x128 .f32) (x6 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11) K := by
    intro E K
    simp only [cc0_hgrn2_eq_skeleton]; unfold cc0_hgrn2_skel
    simp only [k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

/-- The output window, of whose contents nothing is named here. -/
def forgets0 : Fin 8 → Bool := fun w => w.val == 7

/-- The pipeline's proof data: inputs keep their blocks, the output holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point of the grid. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- What the body hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 800000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch, and every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.HgrnFrame

end

end
-- ==== Proof.RefFrames.lean ====
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import Idealize.ShloMosaic.Lib.Claim

/-!
  The three references run, leave their arguments as they were, and have no semaphores to leave unbalanced.
-/

@[expose] public section

noncomputable section
open Idealize.ShloMosaic Idealize.ShloMosaic.TcCoe Idealize.SL.Sem
namespace Cert.Proof.RefFrames

section recurrence
open Cert.ReferenceIdeal Cert.ReferenceIdeal.Gen Cert.ReferenceIdeal.Value Idealize.ShloMosaic.StableHlo
variable {F : FTy → Type} [FloatOps F]

/-- The argument arrays, by name. -/
abbrev argRefs : List (Ref sig .tc) := [main_arg0, main_arg1, main_arg2, main_arg3, main_arg4, main_arg5]

/-- Operations that write only buffers of a list not holding an argument leave the arguments. -/
theorem keeps {ops : List (HloOp τ sig (Elt F))} {W : List (Ref sig .tc)}
    (h : ops.Forall fun op => op.writes ⊆ (W.map (Proc.devRef (τ := τ) .tc)).toFinset)
    (hW : ∀ b ∈ argRefs, b ∉ W) (b : Ref sig .tc) (hb : b ∈ argRefs) (V : Valuation τ sig (Elt F)) :
    after ops V (Proc.devRef .tc b) = V (Proc.devRef .tc b) :=
  after_of_forall_not_mem ops V fun op hop hmem => by
    have := List.forall_iff_forall_mem.mp h op hop hmem
    rw [List.mem_toFinset, List.mem_map] at this
    obtain ⟨x, hx, he⟩ := this
    have hxb : x = b := by
      by_contra hne
      exact devRef_ne_of_ne (τ := τ) hne he
    exact hW b hb (hxb ▸ hx)

/-- A list of stretches each leaving the arguments leaves them. -/
theorem keepsL (items : List (List (HloOp τ sig (Elt F)))) (b : Ref sig .tc)
    (h : items.Forall fun ops => ∀ V, after ops V (Proc.devRef .tc b) = V (Proc.devRef .tc b))
    (V : Valuation τ sig (Elt F)) : afterL items V (Proc.devRef .tc b) = V (Proc.devRef .tc b) := by
  induction items generalizing V with
  | nil => rfl
  | cons ops rest ih =>
    rw [List.forall_cons] at h
    rw [afterL_cons, ih h.2, h.1]

theorem pre_keeps (b : Ref sig .tc) (hb : b ∈ argRefs) (V : Valuation τ sig (Elt F)) :
    afterL preI V (Proc.devRef .tc b) = V (Proc.devRef .tc b) :=
  keepsL _ b (by simp only [preI, List.Forall]; exact ⟨keeps hostOps0_writes (by decide) b hb, keeps hostOps0_1_writes (by decide) b hb, keeps hostOps0_2_writes (by decide) b hb, keeps hostOps0_3_writes (by decide) b hb, keeps hostOps0_4_writes (by decide) b hb, keeps hostOps0_5_writes (by decide) b hb, keeps hostOps0_6_writes (by decide) b hb⟩) V

theorem body_keeps (b : Ref sig .tc) (hb : b ∈ argRefs) (V : Valuation τ sig (Elt F)) :
    afterL bodyI V (Proc.devRef .tc b) = V (Proc.devRef .tc b) :=
  keepsL _ b (by simp only [bodyI, List.Forall]; exact ⟨keeps while0Ops0_writes (by decide) b hb, keeps while0Ops0_1_writes (by decide) b hb, keeps while0Ops0_2_writes (by decide) b hb, keeps while0Ops0_3_writes (by decide) b hb, keeps while0Ops0_4_writes (by decide) b hb, keeps while0Ops0_5_writes (by decide) b hb, keeps while0Ops0_6_writes (by decide) b hb, keeps while0Ops0_7_writes (by decide) b hb, keeps while0Ops0_8_writes (by decide) b hb, keeps while0Ops0_9_writes (by decide) b hb⟩) V

theorem hostOps0_7_writes : (hostOps0_7 : List (HloOp τ sig (Elt F))).Forall fun op =>
    op.writes ⊆ (([main_v49, main_v50, main_v51, main_v52, main_v53, main_cst_9, main_v54, main_v55, main_cst_10, main_v56, main_v57, main_cst_11, main_v58, main_v59, main_v60, main_v61, main_v62, main_v63, main_v64, main_v65] : List (Ref sig .tc)).map (Proc.devRef (τ := τ) .tc)).toFinset :=
  forall_writes_sub_of_map rfl

theorem hostOps0_8_writes : (hostOps0_8 : List (HloOp τ sig (Elt F))).Forall fun op =>
    op.writes ⊆ (([main_call10_v0, main_call10_v1, main_call10_cst, main_call10_v2, main_call10_v3, main_call10_cst_0, main_call10_v4, main_call10_v5, main_v66] : List (Ref sig .tc)).map (Proc.devRef (τ := τ) .tc)).toFinset :=
  forall_writes_sub_of_map rfl

theorem hostOps0_9_writes : (hostOps0_9 : List (HloOp τ sig (Elt F))).Forall fun op =>
    op.writes ⊆ (([main_v67, main_v68, main_v69, main_v70] : List (Ref sig .tc)).map (Proc.devRef (τ := τ) .tc)).toFinset :=
  forall_writes_sub_of_map rfl

theorem post_keeps (b : Ref sig .tc) (hb : b ∈ argRefs) (V : Valuation τ sig (Elt F)) :
    afterL postI V (Proc.devRef .tc b) = V (Proc.devRef .tc b) :=
  keepsL _ b (by simp only [postI, List.Forall]; exact ⟨keeps hostOps0_7_writes (by decide) b hb, keeps hostOps0_8_writes (by decide) b hb, keeps hostOps0_9_writes (by decide) b hb⟩) V

theorem cond_keeps_arg (b : Ref sig .tc) (hb : b ∈ argRefs) (V : Valuation τ sig (Elt F)) :
    after condOps V (Proc.devRef .tc b) = V (Proc.devRef .tc b) :=
  after_of_forall_not_mem condOps V fun op hop => by
    fin_cases hop <;> fin_cases hb <;> exact fun h => devRef_ne_of_ne (by decide) (Finset.mem_singleton.mp h)

theorem trips_keep (b : Ref sig .tc) (hb : b ∈ argRefs) (W : Dev nD → Valuation τ sig (Elt F)) (k : ℕ) (c : Dev nD) :
    atTrip condOps bodyI W k c (Proc.devRef .tc b) = W c (Proc.devRef .tc b) := by
  induction k with
  | zero => rfl
  | succ k ih => rw [atTrip_succ, body_keeps b hb, cond_keeps_arg b hb, ih]

/-- Every argument array ends as it began. -/
theorem final_arg (m : (ℓ : Loc nD τ sig) → Buf (Elt F) ℓ) (c : Dev nD) (b : Ref sig .tc) (hb : b ∈ argRefs) :
    finalContents condOps preI bodyI postI 32 m c (Proc.devRef .tc b) = m ((c.tc : Thread nD τ).loc b) := by
  rw [finalContents, post_keeps b hb, cond_keeps_arg b hb, trips_keep b hb, entryContents, pre_keeps b hb]

/-- The recurrence's reference. -/
theorem frame1 : Cert.quiescent_ReferenceIdeal := fun m ρ _ =>
  (θ_run _ _ _).mono (fun r h => ⟨fun c =>
    ⟨(h c main_arg0 (by decide)).trans (final_arg m c main_arg0 (by decide)),
     (h c main_arg1 (by decide)).trans (final_arg m c main_arg1 (by decide)),
     (h c main_arg2 (by decide)).trans (final_arg m c main_arg2 (by decide)),
     (h c main_arg3 (by decide)).trans (final_arg m c main_arg3 (by decide)),
     (h c main_arg4 (by decide)).trans (final_arg m c main_arg4 (by decide)),
     (h c main_arg5 (by decide)).trans (final_arg m c main_arg5 (by decide))⟩, sem_eq_zero_of_no_sems (by decide) r.2⟩)
    (run_fold (F := Ideal) m ρ)

end recurrence

/-- The input projection's reference. -/
theorem frame2 : Cert.quiescent_Reference2Ideal := fun m ρ _ =>
  (θ_run _ _ _).mono (fun r h => ⟨fun c => (h c).2.2.2.2.2.2.2.2, sem_eq_zero_of_no_sems (by decide) r.2⟩)
    (Cert.Reference2Ideal.Value.run (F := Ideal) m ρ)

/-- The output projection's reference. -/
theorem frame3 : Cert.quiescent_Reference3Ideal := fun m ρ _ =>
  (θ_run _ _ _).mono (fun r h => ⟨fun c => (h c).2.2.2, sem_eq_zero_of_no_sems (by decide) r.2⟩)
    (Cert.Reference3Ideal.Value.run (F := Ideal) m ρ)

end Cert.Proof.RefFrames
end

end
-- ==== Proof.HgrnTrip.lean ====
module

public import proofs.«01_k».proof.Proof.Gen.KernelIdeal.Frame.Runs
public import Idealize.ShloMosaic.Lib.Pipeline.ValueKit
public import Idealize.ShloMosaic.Lib.VecWindow

/-!
  The recurrence's kernel, as `KernelIdeal`: what one trip of the loop stores, and what the trips together leave.
  A trip reads its 128 rows of the inputs and the state, stores 128 rows of the output and the next state.
-/

@[expose] public section

set_option maxRecDepth 16384

noncomputable section

namespace Cert.Proof.HgrnTrip

open Cert.KernelIdeal Cert.KernelIdeal.Gen
open Idealize.ShloMosaic Idealize.ShloMosaic.TcCoe Idealize.ShloMosaic.Tactic

variable {F : FTy → Type} [FloatOps F]

/-- The reference row of the keys at blocks of 8: the running sum at the end of the row's block, up to row 111. -/
def rk8 (v0 : IVec S128x128 32) (cm : FVec F S128x128 .f32) : FVec F S128x128 .f32 :=
  (select (cmpi CmpIPredicate.sge v0 (broadcast S128x128 104#32))
      (broadcastTo S128x128 (shapeCast S1x128 (k0_pay53 cm) shapeCasts_S1x128_S1x128) broadcasts_S1x128_S128x128)
      (select (cmpi CmpIPredicate.sge v0 (broadcast S128x128 96#32))
      (broadcastTo S128x128 (shapeCast S1x128 (k0_pay52 cm) shapeCasts_S1x128_S1x128) broadcasts_S1x128_S128x128)
      (select (cmpi CmpIPredicate.sge v0 (broadcast S128x128 88#32))
      (broadcastTo S128x128 (shapeCast S1x128 (k0_pay51 cm) shapeCasts_S1x128_S1x128) broadcasts_S1x128_S128x128)
      (select (cmpi CmpIPredicate.sge v0 (broadcast S128x128 80#32))
      (broadcastTo S128x128 (shapeCast S1x128 (k0_pay50 cm) shapeCasts_S1x128_S1x128) broadcasts_S1x128_S128x128)
      (select (cmpi CmpIPredicate.sge v0 (broadcast S128x128 72#32))
      (broadcastTo S128x128 (shapeCast S1x128 (k0_pay49 cm) shapeCasts_S1x128_S1x128) broadcasts_S1x128_S128x128)
      (select (cmpi CmpIPredicate.sge v0 (broadcast S128x128 64#32))
      (broadcastTo S128x128 (shapeCast S1x128 (k0_pay48 cm) shapeCasts_S1x128_S1x128) broadcasts_S1x128_S128x128)
      (select (cmpi CmpIPredicate.sge v0 (broadcast S128x128 56#32))
      (broadcastTo S128x128 (shapeCast S1x128 (k0_pay47 cm) shapeCasts_S1x128_S1x128) broadcasts_S1x128_S128x128)
      (select (cmpi CmpIPredicate.sge v0 (broadcast S128x128 48#32))
      (broadcastTo S128x128 (shapeCast S1x128 (k0_pay46 cm) shapeCasts_S1x128_S1x128) broadcasts_S1x128_S128x128)
      (select (cmpi CmpIPredicate.sge v0 (broadcast S128x128 40#32))
      (broadcastTo S128x128 (shapeCast S1x128 (k0_pay45 cm) shapeCasts_S1x128_S1x128) broadcasts_S1x128_S128x128)
      (select (cmpi CmpIPredicate.sge v0 k0_pay58)
      (broadcastTo S128x128 (shapeCast S1x128 (k0_pay44 cm) shapeCasts_S1x128_S1x128) broadcasts_S1x128_S128x128)
      (k0_pay56 v0 (k0_pay40 cm) (k0_pay41 cm) (k0_pay42 cm) (k0_pay43 cm))))))))))))

/-- The reference row of the queries at blocks of 8: the running sum before the row's block, up to row 119. -/
def rq8 (v0 : IVec S128x128 32) (cm : FVec F S128x128 .f32) : FVec F S128x128 .f32 :=
  (select (cmpi CmpIPredicate.sge v0 (broadcast S128x128 112#32))
      (broadcastTo S128x128 (shapeCast S1x128 (k0_pay53 cm) shapeCasts_S1x128_S1x128) broadcasts_S1x128_S128x128)
      (select (cmpi CmpIPredicate.sge v0 (broadcast S128x128 104#32))
      (broadcastTo S128x128 (shapeCast S1x128 (k0_pay52 cm) shapeCasts_S1x128_S1x128) broadcasts_S1x128_S128x128)
      (select (cmpi CmpIPredicate.sge v0 (broadcast S128x128 96#32))
      (broadcastTo S128x128 (shapeCast S1x128 (k0_pay51 cm) shapeCasts_S1x128_S1x128) broadcasts_S1x128_S128x128)
      (select (cmpi CmpIPredicate.sge v0 (broadcast S128x128 88#32))
      (broadcastTo S128x128 (shapeCast S1x128 (k0_pay50 cm) shapeCasts_S1x128_S1x128) broadcasts_S1x128_S128x128)
      (select (cmpi CmpIPredicate.sge v0 (broadcast S128x128 80#32))
      (broadcastTo S128x128 (shapeCast S1x128 (k0_pay49 cm) shapeCasts_S1x128_S1x128) broadcasts_S1x128_S128x128)
      (select (cmpi CmpIPredicate.sge v0 (broadcast S128x128 72#32))
      (broadcastTo S128x128 (shapeCast S1x128 (k0_pay48 cm) shapeCasts_S1x128_S1x128) broadcasts_S1x128_S128x128)
      (select (cmpi CmpIPredicate.sge v0 (broadcast S128x128 64#32))
      (broadcastTo S128x128 (shapeCast S1x128 (k0_pay47 cm) shapeCasts_S1x128_S1x128) broadcasts_S1x128_S128x128)
      (select (cmpi CmpIPredicate.sge v0 (broadcast S128x128 56#32))
      (broadcastTo S128x128 (shapeCast S1x128 (k0_pay46 cm) shapeCasts_S1x128_S1x128) broadcasts_S1x128_S128x128)
      (select (cmpi CmpIPredicate.sge v0 (broadcast S128x128 48#32))
      (broadcastTo S128x128 (shapeCast S1x128 (k0_pay45 cm) shapeCasts_S1x128_S1x128) broadcasts_S1x128_S128x128)
      (select (cmpi CmpIPredicate.sge v0 (broadcast S128x128 40#32))
      (broadcastTo S128x128 (shapeCast S1x128 (k0_pay44 cm) shapeCasts_S1x128_S1x128) broadcasts_S1x128_S128x128)
      (k0_pay57 v0 (k0_pay40 cm) (k0_pay41 cm) (k0_pay42 cm) (k0_pay43 cm))))))))))))

/-- The chunk's scores of blocks of 64, 32 and 16 rows. -/
def scores16 (v0 : IVec S128x128 32) (kk qs cm : FVec F S128x128 .f32) (xlvl : Vec F S128x128 .i32) : FVec F S128x128 .f32 :=
  k0_pay39 v0 kk qs cm xlvl
    (k0_pay28 xlvl (k0_pay22 xlvl k0_pay18 (k0_pay20 v0 qs cm) (k0_pay21 v0 kk cm)) (k0_pay26 v0 qs cm) (k0_pay27 v0 kk cm))
    (k0_pay33 cm) (k0_pay34 cm) (k0_pay35 cm) (k0_pay36 cm) (k0_pay37 v0 cm) (k0_pay38 v0 cm)

/-- The chunk's output before the band: the state's part, the scores' part and the diagonal. -/
def far (v0 : IVec S128x128 32) (vc kk qs cm : FVec F S128x128 .f32) (xlvl : Vec F S128x128 .i32) (st : Vec F S128x128 .f32) : FVec F S128x128 .f32 :=
  k0_pay66 v0 vc kk qs cm (k0_pay15 vc) (k0_pay16 qs cm st) xlvl (scores16 v0 kk qs cm xlvl)
    (k0_pay54 cm) (k0_pay55 cm) (rk8 v0 cm) (rq8 v0 cm) (broadcast S128x128 112#32)

/-- The rows of the output one trip stores. -/
def chunkOut (v0 : IVec S128x128 32) (ng : FVec F S1x128 .f32) (vc gc kk qs cm : FVec F S128x128 .f32) (xlvl : Vec F S128x128 .i32)
    (st : Vec F S128x128 .f32) : FVec F S1x128x128 .bf16 :=
  k0_pay5 gc
    (k0_pay75 ng vc kk qs cm (k0_pay65 v0)
      (k0_pay71 vc kk qs cm (k0_pay65 v0)
        (k0_pay70 vc kk qs cm (k0_pay65 v0) (far v0 vc kk qs cm xlvl st) (k0_pay67 vc) (k0_pay68 kk qs cm) (k0_pay69 v0))
        4#32)
      (k0_pay72 vc) (k0_pay73 kk qs) (k0_pay74 cm))
    (k0_pay76 gc) k0_pay77

/-- The running sum of the logarithms in a chunk. -/
def cum (v0 : IVec S128x128 32) (v67 : Vec F S1x128 .f32) (xf : Vec F S1x128x128 .f32) : FVec F S128x128 .f32 :=
  k0_pay13 v0 (k0_pay11 (k0_pay3 v67) xf) (k0_pay12 v0) 1#32

/-- The rectangle of a trip's rows. -/
def rows (k : Fin k0_t1_loop.trips) : Rect S1x2048x128 := Rect.unit (s := S1x2048x128) (k0_off1 k) S1x128x128.size (k0_off1_inb k)

/-- The rectangle of a trip's columns in the transposed values. -/
def cols (k : Fin k0_t1_loop.trips) : Rect S128x2048 := Rect.unit (s := S128x2048) (k0_off2 k) S128x128.size (k0_off2_inb k)

/-- The rows of the output trip `k` stores, from the blocks and the state it finds. -/
def tripOut (v0 : IVec S128x128 32) (x0 x1 x2 x3 : Vec F S1x2048x128 .f32) (x5 x6 : Vec F S1x128 .f32) (xlvl : Vec F S128x128 .i32)
    (k : Fin k0_t1_loop.trips) (st : Vec F S128x128 .f32) : FVec F S1x128x128 .bf16 :=
  chunkOut v0 (k0_pay4 x6) (k0_pay6 (View.ld x2 (rows k))) (k0_pay7 (View.ld x3 (rows k))) (k0_pay9 (k0_pay3 x5) (View.ld x1 (rows k)))
    (k0_pay10 (View.ld x0 (rows k))) (cum v0 x5 (View.ld x1 (rows k))) xlvl st

/-- The state trip `k` leaves, from the blocks and the state it finds. -/
def tripState (v0 : IVec S128x128 32) (x1 : Vec F S1x2048x128 .f32) (x4 : Vec F S128x2048 .bf16) (x5 : Vec F S1x128 .f32)
    (k : Fin k0_t1_loop.trips) (st : Vec F S128x128 .f32) : Vec F S128x128 .f32 :=
  k0_pay17 (k0_pay9 (k0_pay3 x5) (View.ld x1 (rows k))) (cum v0 x5 (View.ld x1 (rows k)))
    (k0_pay14 v0 (k0_pay11 (k0_pay3 x5) (View.ld x1 (rows k))) (k0_pay12 v0) 1#32) st (View.ld x4 (cols k))

/-- The state before trip `k`. -/
def stateAt (v0 : IVec S128x128 32) (x1 : Vec F S1x2048x128 .f32) (x4 : Vec F S128x2048 .bf16) (x5 : Vec F S1x128 .f32) : ℕ → Vec F S128x128 .f32
  | 0 => k0_pay2
  | k + 1 => if h : k < k0_t1_loop.trips then tripState v0 x1 x4 x5 ⟨k, h⟩ (stateAt v0 x1 x4 x5 k) else stateAt v0 x1 x4 x5 k

section Trips

variable(𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S128x2048 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S128x128 .f32) (harg10 : arg10.IsWhole) (arg11 : Memref sig .tc .vmem S128x128 .i32) (harg11 : arg11.IsWhole) (v0 : IVec S128x128 32) (v67 : Vec F S1x128 .f32) (v69 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg11 : BufTy.Contents (Elt F) arg11.view.ty)

set_option maxHeartbeats 1000000 in
/-- The piece of the output trip `k` stores. -/
theorem trip_out (k : Fin k0_t1_loop.trips) (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 k).1 f9 f10
    = [⟨rows k, tripOut v0 (arg2.view.read (Elt F) X_arg2) (arg3.view.read (Elt F) X_arg3) (arg4.view.read (Elt F) X_arg4) (arg5.view.read (Elt F) X_arg5)
        v67 v69 (arg11.view.readAt (Elt F) (Rect.unit ![0, 0] S128x128.size inb_S128x128_S128x128_0_0).toLoadRect X_arg11) k
        (arg10.view.readAt (Elt F) (Rect.unit ![0, 0] S128x128.size inb_S128x128_S128x128_0_0).toLoadRect f10)⟩] := by
  unfold trip_k0_t1
  dsimp only
  sl_unfold_words
  rfl

set_option maxHeartbeats 1000000 in
/-- The piece of the state trip `k` stores. -/
theorem trip_state (k : Fin k0_t1_loop.trips) (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 k).2.1 f9 f10
    = [⟨Rect.unit ![0, 0] S128x128.size inb_S128x128_S128x128_0_0, tripState v0 (arg3.view.read (Elt F) X_arg3) (arg6.view.read (Elt F) X_arg6) v67 k
        (arg10.view.readAt (Elt F) (Rect.unit ![0, 0] S128x128.size inb_S128x128_S128x128_0_0).toLoadRect f10)⟩] := by
  unfold trip_k0_t1
  dsimp only
  sl_unfold_words
  rfl

/-- After the stores of the trips before `n` the state's buffer holds the state before trip `n`. -/
theorem state_read (g9 : BufTy.Contents (Elt F) arg9.view.ty) (g10 : BufTy.Contents (Elt F) arg10.view.ty)
    (h10 : arg10.view.read (Elt F) g10 = k0_pay2) (n : ℕ) (hn : n ≤ k0_t1_loop.trips) :
    arg10.view.read (Elt F) (arg10.view.writes (Elt F) g10 (pb_k0_t1 (F := F) 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 g9 g10 n).2)
      = stateAt v0 (arg3.view.read (Elt F) X_arg3) (arg6.view.read (Elt F) X_arg6) v67 n := by
  induction n with
  | zero => exact h10
  | succ n ih =>
    have ih := ih (by omega)
    have hk : n < k0_t1_loop.trips := by omega
    have e := pb_k0_t1_succ (F := F) 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 g9 g10 ⟨n, hk⟩
    rw [show (⟨n, hk⟩ : Fin k0_t1_loop.trips).val = n from rfl] at e
    rw [e]
    dsimp only [tripL_k0_t1]
    rw [trip_state, List.cons_append, List.nil_append]
    refine (View.read_writes_full _ _ _ _ _).trans ?_
    rw [View.readAt_full, ih]
    simp only [stateAt, dif_pos hk]

/-- The output of the block: each row from its trip. -/
def out (v0 : IVec S128x128 32) (x0 x1 x2 x3 : Vec F S1x2048x128 .f32) (x4 : Vec F S128x2048 .bf16) (x5 x6 : Vec F S1x128 .f32) (xlvl : Vec F S128x128 .i32) :
    Vec F S1x2048x128 .bf16 := fun y =>
  tripOut v0 x0 x1 x2 x3 x5 x6 xlvl ⟨(y 1).val / 128, (Nat.div_lt_of_lt_mul (y 1).isLt : (y 1).val / 128 < 16)⟩
    (stateAt v0 x1 x4 x5 ((y 1).val / 128)) (ix3 0 ⟨(y 1).val % 128, Nat.mod_lt _ (by decide)⟩ (y 2))

/-- The offsets of a trip's rows. -/
theorem off1_eq : ∀ k : Fin k0_t1_loop.trips, k0_off1 k = ![0, k.val * 128, 0] := by decide +kernel

/-- After the stores of the trips before `n` the rows before `128 n` of the output's buffer hold the output. -/
theorem out_read (g9 : BufTy.Contents (Elt F) arg9.view.ty) (g10 : BufTy.Contents (Elt F) arg10.view.ty)
    (h10 : arg10.view.read (Elt F) g10 = k0_pay2) (n : ℕ) (hn : n ≤ k0_t1_loop.trips) (y : S1x2048x128.Idx) (hy : (y 1).val < n * 128) :
    arg9.view.read (Elt F) (arg9.view.writes (Elt F) g9 (pb_k0_t1 (F := F) 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 g9 g10 n).1) y
      = out v0 (arg2.view.read (Elt F) X_arg2) (arg3.view.read (Elt F) X_arg3) (arg4.view.read (Elt F) X_arg4) (arg5.view.read (Elt F) X_arg5)
          (arg6.view.read (Elt F) X_arg6) v67 v69 (arg11.view.read (Elt F) X_arg11) y := by
  induction n with
  | zero => omega
  | succ n ih =>
    have ih := ih (by omega)
    have hk : n < k0_t1_loop.trips := by omega
    have hs := state_read 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 g9 g10 h10 n (by omega)
    have e := pb_k0_t1_succ (F := F) 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 g9 g10 ⟨n, hk⟩
    rw [show (⟨n, hk⟩ : Fin k0_t1_loop.trips).val = n from rfl] at e
    rw [e]
    dsimp only [tripL_k0_t1]
    rw [trip_out, List.cons_append, List.nil_append]
    by_cases hlt : (y 1).val < n * 128
    · rw [← ih hlt]
      exact View.read_writes_cons_unit_of_not_mem _ _ (k0_off1_inb ⟨n, hk⟩) _ _ y (off1_eq ⟨n, hk⟩) 1 (Or.inl hlt)
    · have h0 : (y 0).val = 0 := by have : (y 0).val < 1 := (y 0).isLt; omega
      have hq : (y 1).val / 128 = n := by omega
      have hx := View.read_writes_cons_unit_of_mem arg9.view g9 (k0_off1_inb ⟨n, hk⟩)
        (tripOut v0 (arg2.view.read (Elt F) X_arg2) (arg3.view.read (Elt F) X_arg3) (arg4.view.read (Elt F) X_arg4) (arg5.view.read (Elt F) X_arg5)
        v67 v69 (arg11.view.readAt (Elt F) (Rect.unit ![0, 0] S128x128.size inb_S128x128_S128x128_0_0).toLoadRect X_arg11) ⟨n, hk⟩
        (arg10.view.readAt (Elt F) (Rect.unit ![0, 0] S128x128.size inb_S128x128_S128x128_0_0).toLoadRect
          (arg10.view.writes (Elt F) g10 (pb_k0_t1 (F := F) 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 g9 g10 n).2)))
        (pb_k0_t1 (F := F) 𝒱 c bd i arg2 harg2 arg3 harg3 arg4 harg4 arg5 harg5 arg6 harg6 arg7 harg7 arg8 harg8 arg9 harg9 arg10 harg10 arg11 harg11 v0 v67 v69 X_arg2 X_arg3 X_arg4 X_arg5 X_arg6 X_arg11 g9 g10 n).1 y
        (ix3 0 ⟨(y 1).val % 128, Nat.mod_lt _ (by decide)⟩ (y 2)) (off1_eq ⟨n, hk⟩) (by
          intro a
          fin_cases a
          · show (y 0).val = 0 + 0
            omega
          · show (y 1).val = n * 128 + (y 1).val % 128
            omega
          · show (y 2).val = 0 + (y 2).val
            omega)
      refine hx.trans ?_
      rw [View.readAt_full, View.readAt_full, hs]
      unfold out
      simp only [hq]

end Trips

end Cert.Proof.HgrnTrip

end

end
-- ==== Proof.HgrnFrameI.lean ====
module

public import proofs.«01_k».proof.Proof.HgrnTrip
public import Idealize.ShloMosaic.Lib.Claim

/-!
  The recurrence's kernel, as `KernelIdeal`: every run ends with the arguments unchanged and the counters at zero,
  and the output holds, block by block, the rows the trips of the loop store.
-/

@[expose] public section

set_option maxRecDepth 16384

noncomputable section

namespace Cert.Proof.HgrnFrameI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of each pair of rows of the scores, as the body lays it down before the loop. -/
def lvl : IVec S128x128 32 :=
  k0_pay1 (iota .tc S128x128 32 [0] iota_S128x128_d0_w32) (iota .tc S128x128 32 [1] iota_S128x128_d1_w32) k0_pay78 k0_pay79 k0_pay80 k0_pay81 1#32

/-- The block of the output, from the blocks of the inputs. -/
def outB (x0 x1 x2 x3 : Vec F S1x2048x128 .f32) (x4 : Vec F S128x2048 .bf16) (x5 x6 : Vec F S1x128 .f32) : Vec F S1x2048x128 .bf16 :=
  HgrnTrip.out (iota .tc S128x128 32 [0] iota_S128x128_d0_w32) x0 x1 x2 x3 x4 x5 x6 lvl

set_option maxHeartbeats 2000000 in
/-- The body on whole staging buffers: inputs kept, the output at its rows, the scratch handed back at some contents. -/
theorem body_run (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S128x2048 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S128x128 .f32) (harg10 : arg10.IsWhole) (arg11 : Memref sig .tc .vmem S128x128 .i32) (harg11 : arg11.IsWhole)
    (x0 : Vec F S1x2048x128 .f32) (x1 : Vec F S1x2048x128 .f32) (x2 : Vec F S1x2048x128 .f32) (x3 : Vec F S1x2048x128 .f32) (x4 : Vec F S128x2048 .bf16) (x5 : Vec F S1x128 .f32) (x6 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outB x0 x1 x2 x3 x4 x5 x6) ∗ (∃ d, owns (c : Thread nD τ) arg10 fullShare d) ∗ (∃ d, owns (c : Thread nD τ) arg11 fullShare d)) -∗ K ⟨⟩))
          ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11) K := by
    intro E K
    simp only [cc0_hgrn2_eq_skeleton]; unfold cc0_hgrn2_skel
    simp only [k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      sl_unfold_words
      funext y
      refine (HgrnTrip.out_read Variants.none c none i arg2 harg2 arg3 harg3 arg4 harg4 arg5 harg5 arg6 harg6 arg7 harg7 arg8 harg8 arg9 harg9 arg10 harg10 arg11 harg11 _ _ _ _ _ _ _ _ _ _ _
        (View.read_writes_full _ _ _ _ _) k0_t1_loop.trips le_rfl y (y 1).isLt).trans ?_
      rw [View.read_writes_full, View.readAt_full, View.readAt_full, hf0, hf1, hf2, hf3, hf4, hf5, hf6]
      rfl
    isplitl [HS0]
    · iexists _, _; isplitr; swap; · iexact HS0
      ipureintro; rfl
    iexists _, _; isplitr; swap; · iexact HS1
    ipureintro; rfl

/-- The pipeline's proof data: inputs keep their blocks, the output holds its rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outB (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem after0_7 (c : Dev nD) (t : Fin cfg0.N) : (dats m 0 c).after 7 t
    = outB (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a point of the grid. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.HgrnFrameI

end

end
-- ==== Proof.HgrnMath.lean ====
module

public import Mathlib.Analysis.SpecialFunctions.Exp
public import Mathlib.Algebra.BigOperators.Intervals

/-!
  The recurrence over the reals: the output of a step as a sum over the steps before it, the state after so many
  steps, and how both are formed chunk by chunk.  Everything is indexed by step and by lane, for one head of one sequence.
-/

@[expose] public section

noncomputable section

namespace Cert.Proof.HgrnMath

open Finset

variable (L q k v : ℕ → ℕ → ℝ)

/-- The sum of the logarithms before step `n`. -/
def G (n d : ℕ) : ℝ := ∑ r ∈ range n, L r d

/-- The running sum inside the chunk beginning at step `T`. -/
def cum (T j d : ℕ) : ℝ := ∑ r ∈ range (j + 1), L (T + r) d

/-- The score of step `s` for step `t`. -/
def score (t s : ℕ) : ℝ := ∑ d ∈ range 128, q t d * k s d * Real.exp (G L (t + 1) d - G L (s + 1) d)

/-- The output of step `t`. -/
def O (t e : ℕ) : ℝ := ∑ s ∈ range (t + 1), score L q k t s * v s e

/-- The state after `T` steps, value lane first. -/
def St (T e d : ℕ) : ℝ := ∑ s ∈ range T, k s d * Real.exp (G L T d - G L (s + 1) d) * v s e

theorem G_add (T j d : ℕ) : G L (T + j + 1) d = G L T d + cum L T j d := by
  unfold G cum
  rw [Nat.add_assoc, sum_range_add]

/-- The score inside a chunk. -/
theorem score_chunk (T j s : ℕ) : score L q k (T + j) (T + s)
    = ∑ d ∈ range 128, q (T + j) d * k (T + s) d * Real.exp (cum L T j d - cum L T s d) := by
  unfold score
  refine sum_congr rfl fun d _ => ?_
  rw [G_add, G_add, add_sub_add_left_eq_sub]

/-- The output of a step from the state before its chunk and the steps of its chunk. -/
theorem O_chunk (T j e : ℕ) : O L q k v (T + j) e
    = (∑ d ∈ range 128, q (T + j) d * Real.exp (cum L T j d) * St L k v T e d)
      + ∑ s ∈ range (j + 1), (∑ d ∈ range 128, q (T + j) d * k (T + s) d * Real.exp (cum L T j d - cum L T s d)) * v (T + s) e := by
  unfold O
  rw [Nat.add_assoc, sum_range_add]
  congr 1
  · unfold score St
    simp only [sum_mul, mul_sum]
    rw [sum_comm]
    refine sum_congr rfl fun d _ => sum_congr rfl fun s _ => ?_
    rw [G_add, show G L T d + cum L T j d - G L (s + 1) d = cum L T j d + (G L T d - G L (s + 1) d) by ring, Real.exp_add]
    ring
  · refine sum_congr rfl fun s _ => ?_
    rw [score_chunk]

/-- The state after a chunk of `C + 1` steps from the state before it. -/
theorem St_chunk (T C e d : ℕ) : St L k v (T + (C + 1)) e d
    = St L k v T e d * Real.exp (cum L T C d)
      + ∑ s ∈ range (C + 1), v (T + s) e * (k (T + s) d * Real.exp (cum L T C d - cum L T s d)) := by
  unfold St
  rw [sum_range_add, sum_mul]
  congr 1
  · refine sum_congr rfl fun s _ => ?_
    rw [← Nat.add_assoc, G_add, show G L T d + cum L T C d - G L (s + 1) d = (G L T d - G L (s + 1) d) + cum L T C d by ring, Real.exp_add]
    ring
  · refine sum_congr rfl fun s _ => ?_
    rw [← Nat.add_assoc, G_add, G_add, add_sub_add_left_eq_sub]
    ring

theorem St_zero (e d : ℕ) : St L k v 0 e d = 0 := by simp [St]

/-- With logarithms at most zero the running sum falls. -/
theorem cum_le (hL : ∀ r d, L r d ≤ 0) (T s j d : ℕ) (h : s ≤ j) : cum L T j d - cum L T s d ≤ 0 := by
  unfold cum
  rw [show j + 1 = (s + 1) + (j - s) by omega, sum_range_add, add_sub_cancel_left]
  exact sum_nonpos fun r _ => hL _ _

/-- Steps of earlier blocks of eight, and the steps of the own block counted backwards, are the steps up to `t`. -/
theorem band (B : ℕ → ℝ) (t : ℕ) (ht : t < 128) :
    (∑ s ∈ range 128, if s / 8 < t / 8 then B s else 0) + (∑ δ ∈ range 8, if δ ≤ t % 8 then B (t - δ) else 0)
      = ∑ s ∈ range (t + 1), B s := by
  have h1 : (∑ s ∈ range 128, if s / 8 < t / 8 then B s else 0) = ∑ s ∈ range (t / 8 * 8), B s := by
    rw [← sum_filter]
    refine sum_congr ?_ fun _ _ => rfl
    ext s
    simp only [mem_filter, mem_range]
    omega
  have h2 : (∑ δ ∈ range 8, if δ ≤ t % 8 then B (t - δ) else 0) = ∑ δ ∈ range (t % 8 + 1), B (t - δ) := by
    rw [← sum_filter]
    refine sum_congr ?_ fun _ _ => rfl
    ext s
    simp only [mem_filter, mem_range]
    omega
  have h3 : ∑ δ ∈ range (t % 8 + 1), B (t - δ) = ∑ j ∈ range (t % 8 + 1), B (t / 8 * 8 + j) := by
    rw [← sum_range_reflect (fun j => B (t / 8 * 8 + j)) (t % 8 + 1)]
    refine sum_congr rfl fun j hj => ?_
    rw [mem_range] at hj
    congr 1
    omega
  rw [h1, h2, h3, ← sum_range_add]
  congr 2
  omega

/-- The sum of the last `w` entries up to `t`, as many as there are. -/
def win (l : ℕ → ℝ) (w t : ℕ) : ℝ := ∑ j ∈ range (min w (t + 1)), l (t - j)

theorem win_one (l : ℕ → ℝ) (t : ℕ) : win l 1 t = l t := by
  unfold win
  rw [show min 1 (t + 1) = 1 by omega, sum_range_one, Nat.sub_zero]

/-- Adding the window `w` entries earlier doubles the window. -/
theorem win_double (l : ℕ → ℝ) (w t : ℕ) :
    win l w t + (if w ≤ t then win l w (t - w) else 0) = win l (w + w) t := by
  unfold win
  split_ifs with h
  · rw [show min w (t + 1) = w by omega, show min (w + w) (t + 1) = w + min w (t - w + 1) by omega, sum_range_add]
    congr 1
    refine sum_congr rfl fun j _ => ?_
    congr 1
    omega
  · rw [show min w (t + 1) = t + 1 by omega, show min (w + w) (t + 1) = t + 1 by omega, add_zero]

theorem win_full (l : ℕ → ℝ) (t : ℕ) (ht : t < 128) : win l 128 t = ∑ r ∈ range (t + 1), l r := by
  unfold win
  rw [show min 128 (t + 1) = t + 1 by omega, ← sum_range_reflect l (t + 1)]
  refine sum_congr rfl fun j _ => ?_
  congr 1

end Cert.Proof.HgrnMath

end

end
-- ==== Proof.HgrnChunk.lean ====
module

public import proofs.«01_k».proof.Proof.HgrnFrameI
public import proofs.«01_k».proof.Proof.HgrnMath
public import Idealize.ShloMosaic.Lib.Pointwise
public import Idealize.ShloMosaic.Lib.WordCmp
public import Idealize.ShloMosaic.Lib.KernelVsHost

/-!
  The recurrence's kernel over the ideal floats: with real rows of queries, keys, values and logarithms, what a trip
  of the loop computes is the chunk's step of the recurrence over the reals.
-/

@[expose] public section

set_option maxRecDepth 16384

noncomputable section

namespace Cert.Proof.HgrnChunk

open Cert.KernelIdeal Cert.KernelIdeal.Gen Cert.Proof.HgrnTrip Cert.Proof.HgrnFrameI Cert.Proof.HgrnMath
open Idealize.ShloMosaic Idealize.ShloMosaic.TcCoe Idealize.SL.Sem
open Finset

/-- The row numbers of a chunk. -/
abbrev row : IVec S128x128 32 := iota .tc S128x128 32 [0] iota_S128x128_d0_w32

/-- The array holds real numbers, those of `X` by row and lane. -/
def Is (x : FVec Ideal S128x128 .f32) (X : ℕ → ℕ → ℝ) : Prop := ∀ i j : Fin 128, x (ix2 i j) = ((X i.val j.val : ℝ) : EReal)

/-- A sum of real numbers, formed among the extended reals. -/
theorem sum_coe {n : ℕ} (f : Fin n → ℝ) : ∑ x, ((f x : ℝ) : EReal) = ((∑ x, f x : ℝ) : EReal) := by
  induction n with
  | zero => simp
  | succ n ih => rw [Fin.sum_univ_succ, Fin.sum_univ_succ, ih, EReal.coe_add]

/-- The sum over the lanes as a sum over their numbers. -/
theorem sum_lanes {n : ℕ} (f : ℕ → ℝ) : ∑ x : Fin n, f x.val = ∑ x ∈ range n, f x := (Finset.sum_range f).symm

/-- A choice by "at least" between small numbers. -/
theorem sel_ge {α : Type} (i w : ℕ) (hi : i < 128) (hw : w < 128) (a b : α) :
    Scalar.select (IntOp.cmpi .sge (BitVec.ofNat 32 i) (BitVec.ofNat 32 w)) a b = if w ≤ i then a else b := by
  rw [WordCmp.cmpi_sge_ofNat (w := 32) (a := i) (b := w) (by omega) (by omega)]
  by_cases h : w ≤ i <;> simp [Scalar.select, h]

/-- A choice by equality of words. -/
theorem sel_eq {α : Type} (x y : BitVec 32) (a b : α) :
    Scalar.select (IntOp.cmpi .eq x y) a b = if x = y then a else b := by
  unfold Scalar.select IntOp.cmpi
  by_cases h : x = y
  · simp [h]
  · have : (x == y) = false := by simpa using h
    rw [this, if_neg h]
    simp

theorem ite_coe (p : Prop) [Decidable p] (a b : ℝ) : (if p then ((a : ℝ) : EReal) else ((b : ℝ) : EReal)) = (((if p then a else b) : ℝ) : EReal) := by
  split_ifs <;> rfl

/-- A rotation by `w` rows, read at a row. -/
theorem rot (w : ℕ) (hw : w < 128) (x : FVec Ideal S128x128 .f32) (i j : Fin 128) :
    dynamicRotate 0 (BitVec.ofNat 32 w) none x rotates_S128x128_d0 (ix2 i j) = x (ix2 ⟨(i.val + 128 - w) % 128, Nat.mod_lt _ (by decide)⟩ j) := by
  refine Idealize.ShloMosaic.dynamicRotate_apply (0 : Fin 2) _ x rotates_S128x128_d0 _ _ fun b => ?_
  have e : (BitVec.ofNat 32 w).toNat % 128 = w := by
    rw [BitVec.toNat_ofNat]; omega
  fin_cases b
  · show (i.val + 128 - w) % 128 = (i.val + 128 - (BitVec.ofNat 32 w).toNat % 128) % 128
    rw [e]
  · rfl

/-- One step of the running sum: the rows `w` earlier are added, and the window doubles. -/
theorem is_step (w : ℕ) (hw : w < 128) {x : FVec Ideal S128x128 .f32} {X : ℕ → ℕ → ℝ} (hx : Is x fun t d => win (fun r => X r d) w t) :
    Is (addf x (select (cmpi .sge row (broadcast S128x128 (BitVec.ofNat 32 w))) (dynamicRotate 0 (BitVec.ofNat 32 w) none x rotates_S128x128_d0)
      (broadcast S128x128 (Scalar.ofBits .f32 0x00000000#32)))) (fun t d => win (fun r => X r d) (w + w) t) := by
  intro i j
  have h : ∀ r : FVec Ideal S128x128 .f32, addf x (select (cmpi .sge row (broadcast S128x128 (BitVec.ofNat 32 w))) r
      (broadcast S128x128 (Scalar.ofBits .f32 0x00000000#32))) (ix2 i j)
      = x (ix2 i j) + Scalar.select (IntOp.cmpi CmpIPredicate.sge (BitVec.ofNat 32 i.val) (BitVec.ofNat 32 w)) (r (ix2 i j)) 0 := by
    intro r
    pointwise [row]
  rw [h, rot w hw, sel_ge _ _ i.isLt hw, hx, hx]
  dsimp only
  rw [← win_double]
  split_ifs with hle
  · have e : (i.val + 128 - w) % 128 = i.val - w := by have := i.isLt; omega
    rw [e, EReal.coe_add]
  · rw [add_zero, add_zero]

/-- The running sum of a chunk. -/
theorem is_cum {x : FVec Ideal S128x128 .f32} {X : ℕ → ℕ → ℝ} (hx : Is x X) :
    Is (k0_pay13 row x (k0_pay12 row) 1#32) (fun t d => ∑ r ∈ range (t + 1), X r d) := by
  have h := is_step 64 (by decide) (is_step 32 (by decide) (is_step 16 (by decide) (is_step 8 (by decide)
    (is_step 4 (by decide) (is_step 2 (by decide) (is_step (X := X) 1 (by decide) (x := x)
      fun i j => (hx i j).trans (by dsimp only; rw [win_one])))))))
  intro i j
  refine (h i j).trans ?_
  dsimp only
  rw [win_full _ _ i.isLt]

/-- The last row of the running sum. -/
theorem tot_eq {x : FVec Ideal S128x128 .f32} {X : ℕ → ℕ → ℝ} (hx : Is x X) (j : Fin 128) :
    k0_pay14 row x (k0_pay12 row) 1#32 (ix2 0 j) = ((∑ r ∈ range 128, X r j.val : ℝ) : EReal) := by
  have h : k0_pay14 row x (k0_pay12 row) 1#32 (ix2 0 j) = k0_pay13 row x (k0_pay12 row) 1#32 (ix2 127 j) := by
    pointwise [k0_pay14]
  rw [h, is_cum hx]
  rfl

/-- The next state, value lane first. -/
theorem is_state {kk cm : FVec Ideal S128x128 .f32} {tot : FVec Ideal S1x128 .f32} {st : Vec Ideal S128x128 .f32} {w : Vec Ideal S128x128 .bf16}
    {K C S W : ℕ → ℕ → ℝ} (hk : Is kk K) (hc : Is cm C) (ht : ∀ j : Fin 128, tot (ix2 0 j) = ((C 127 j.val : ℝ) : EReal)) (hs : Is st S)
    (hw : ∀ i j : Fin 128, w (ix2 i j) = ((W i.val j.val : ℝ) : EReal)) :
    Is (k0_pay17 kk cm tot st w) (fun e d => S e d * Real.exp (C 127 d) + ∑ s ∈ range 128, W e s * (K s d * Real.exp (C 127 d - C s d))) := by
  intro i j
  pointwise [k0_pay17]
  simp only [hk _ _, hc _ _, ht, hs _ _, hw, Ideal.exp_coe, ← EReal.coe_sub, ← EReal.coe_mul, sum_coe, ← EReal.coe_add]
  rw [← sum_lanes (n := 128)]

/-- The state's part of the output. -/
theorem is_fromState {qs cm : FVec Ideal S128x128 .f32} {st : Vec Ideal S128x128 .f32} {Q C S : ℕ → ℕ → ℝ} (hq : Is qs Q) (hc : Is cm C) (hs : Is st S) :
    Is (k0_pay16 qs cm st) (fun t e => ∑ d ∈ range 128, Q t d * Real.exp (C t d) * S e d) := by
  intro i j
  pointwise [k0_pay16]
  simp only [hq _ _, hc _ _, hs _ _, Ideal.exp_coe, ← EReal.coe_mul, sum_coe]
  rw [← sum_lanes (n := 128)]

/-- The reference row of the queries at blocks of `c` rows: the running sum before the block. -/
def rq (c : ℕ) (C : ℕ → ℕ → ℝ) (t d : ℕ) : ℝ := if t < c then 0 else C (t / c * c - 1) d

/-- The reference row of the keys at blocks of `c` rows: the running sum at the end of the block. -/
def rk (c : ℕ) (C : ℕ → ℕ → ℝ) (s d : ℕ) : ℝ := C (s / c * c + (c - 1)) d

/-- The scores at blocks of `c` rows. -/
def sc (c : ℕ) (Q K C : ℕ → ℕ → ℝ) (t s : ℕ) : ℝ :=
  ∑ d ∈ range 128, Q t d * Real.exp (C t d - rq c C t d) * (K s d * Real.exp (rk c C s d - C s d))

theorem zero_coe : (0 : EReal) = ((0 : ℝ) : EReal) := rfl

set_option maxHeartbeats 1000000 in
/-- The queries against the reference rows, blocks of 64. -/
theorem is_q64 {qs cm : FVec Ideal S128x128 .f32} {Q C : ℕ → ℕ → ℝ} (hq : Is qs Q) (hc : Is cm C) :
    Is (k0_pay20 row qs cm) (fun t d => Q t d * Real.exp (C t d - rq 64 C t d)) := by
  intro i j
  have key : (if 64 ≤ i.val then C 63 j.val else 0) = rq 64 C i.val j.val := by
    have := i.isLt
    unfold rq
    split_ifs <;> first | rfl | (exfalso; omega) | (refine congrArg (fun n => C n j.val) ?_; omega)
  pointwise [k0_pay20, k0_pay19, row]
  rw [sel_ge _ _ i.isLt (by decide), hq, hc, hc, zero_coe, ite_coe, ← EReal.coe_sub, Ideal.exp_coe, ← EReal.coe_mul]
  exact congrArg (fun r => ((Q i.val j.val * Real.exp (C i.val j.val - r) : ℝ) : EReal)) key

/-- The keys against the reference rows, blocks of 64. -/
theorem is_k64 {kk cm : FVec Ideal S128x128 .f32} {K C : ℕ → ℕ → ℝ} (hk : Is kk K) (hc : Is cm C) :
    Is (k0_pay21 row kk cm) (fun s d => K s d * Real.exp (rk 64 C s d - C s d)) := by
  intro i j
  have key : (if 64 ≤ i.val then C 127 j.val else C 63 j.val) = rk 64 C i.val j.val := by
    have := i.isLt
    unfold rk
    split_ifs <;> first | rfl | (exfalso; omega) | (refine congrArg (fun n => C n j.val) ?_; omega)
  pointwise [k0_pay21, k0_pay19, row]
  rw [sel_ge _ _ i.isLt (by decide), hk, hc, hc, hc, ite_coe, ← EReal.coe_sub, Ideal.exp_coe, ← EReal.coe_mul]
  exact congrArg (fun r => ((K i.val j.val * Real.exp (r - C i.val j.val) : ℝ) : EReal)) key

/-- The queries against the reference rows, blocks of 32. -/
theorem is_q32 {qs cm : FVec Ideal S128x128 .f32} {Q C : ℕ → ℕ → ℝ} (hq : Is qs Q) (hc : Is cm C) :
    Is (k0_pay26 row qs cm) (fun t d => Q t d * Real.exp (C t d - rq 32 C t d)) := by
  intro i j
  have key : (if 96 ≤ i.val then C 95 j.val else if 64 ≤ i.val then C 63 j.val else if 32 ≤ i.val then C 31 j.val else 0) = rq 32 C i.val j.val := by
    have := i.isLt
    unfold rq
    split_ifs <;> first | rfl | (exfalso; omega) | (refine congrArg (fun n => C n j.val) ?_; omega)
  pointwise [k0_pay26, k0_pay25, k0_pay24, k0_pay23, row]
  simp only [sel_ge _ _ i.isLt (show 96 < 128 by decide), sel_ge _ _ i.isLt (show 64 < 128 by decide), sel_ge _ _ i.isLt (show 32 < 128 by decide)]
  simp only [hq _ _, hc _ _, zero_coe, ite_coe, ← EReal.coe_sub, Ideal.exp_coe, ← EReal.coe_mul]
  exact congrArg (fun r => ((Q i.val j.val * Real.exp (C i.val j.val - r) : ℝ) : EReal)) key

/-- The keys against the reference rows, blocks of 32. -/
theorem is_k32 {kk cm : FVec Ideal S128x128 .f32} {K C : ℕ → ℕ → ℝ} (hk : Is kk K) (hc : Is cm C) :
    Is (k0_pay27 row kk cm) (fun s d => K s d * Real.exp (rk 32 C s d - C s d)) := by
  intro i j
  have key : (if 96 ≤ i.val then C 127 j.val else if 64 ≤ i.val then C 95 j.val else if 32 ≤ i.val then C 63 j.val else C 31 j.val)
      = rk 32 C i.val j.val := by
    have := i.isLt
    unfold rk
    split_ifs <;> first | rfl | (exfalso; omega) | (refine congrArg (fun n => C n j.val) ?_; omega)
  pointwise [k0_pay27, k0_pay25, k0_pay24, k0_pay23, row]
  simp only [sel_ge _ _ i.isLt (show 96 < 128 by decide), sel_ge _ _ i.isLt (show 64 < 128 by decide), sel_ge _ _ i.isLt (show 32 < 128 by decide)]
  simp only [hk _ _, hc _ _, ite_coe, ← EReal.coe_sub, Ideal.exp_coe, ← EReal.coe_mul]
  exact congrArg (fun r => ((K i.val j.val * Real.exp (r - C i.val j.val) : ℝ) : EReal)) key

/-- The scores after the level of 64. -/
theorem is_s64 {qs kk : FVec Ideal S128x128 .f32} {x : IVec S128x128 32} {Q K : ℕ → ℕ → ℝ} (hq : Is qs Q) (hk : Is kk K) (i s : Fin 128) :
    k0_pay22 (F := Ideal) x k0_pay18 qs kk (ix2 i s)
      = if x (ix2 i s) = 64#32 then ((∑ d ∈ range 128, Q i.val d * K s.val d : ℝ) : EReal) else 0 := by
  pointwise [k0_pay22, k0_pay18]
  rw [sel_eq]
  simp only [hq _ _, hk _ _, ← EReal.coe_mul, sum_coe]
  rw [← sum_lanes (n := 128)]

/-- The scores after the level of 32. -/
theorem is_s32 {qs kk : FVec Ideal S128x128 .bf16} {x : IVec S128x128 32} {y : FVec Ideal S128x128 .f32} {Q K : ℕ → ℕ → ℝ}
    (hq : Is qs Q) (hk : Is kk K) (i s : Fin 128) :
    k0_pay28 (F := Ideal) x y qs kk (ix2 i s)
      = if x (ix2 i s) = 32#32 then ((∑ d ∈ range 128, Q i.val d * K s.val d : ℝ) : EReal) else y (ix2 i s) := by
  pointwise [k0_pay28]
  rw [sel_eq]
  have hq' : ∀ i j : Fin 128, qs (ix2 i j) = ((Q i.val j.val : ℝ) : EReal) := hq
  have hk' : ∀ i j : Fin 128, kk (ix2 i j) = ((K i.val j.val : ℝ) : EReal) := hk
  simp only [hq', hk', ← EReal.coe_mul, sum_coe]
  rw [← sum_lanes (n := 128)]

end Cert.Proof.HgrnChunk

end

end
-- ==== Proof.HgrnLevels.lean ====
module

public import proofs.«01_k».proof.Proof.HgrnFrameI
public import Idealize.ShloMosaic.Lib.Pointwise

/-!
  The level table of a chunk: which size of block a pair of steps is reckoned by.
-/

@[expose] public section

set_option maxRecDepth 16384

noncomputable section

namespace Cert.Proof.HgrnLevels

open Cert.KernelIdeal Cert.KernelIdeal.Gen Cert.Proof.HgrnTrip Cert.Proof.HgrnFrameI
open Idealize.ShloMosaic Idealize.ShloMosaic.TcCoe Idealize.SL.Sem

/-- The test "odd block, and the block before it" on small numbers. -/
theorem test_small : ∀ a b : Fin 16, IntOp.andi (IntOp.cmpi CmpIPredicate.eq (IntOp.andi (BitVec.ofNat 32 a.val) 1#32) 1#32)
    (IntOp.cmpi CmpIPredicate.eq (BitVec.ofNat 32 b.val) (IntOp.subi (BitVec.ofNat 32 a.val) 1#32))
    = if a.val % 2 = 1 ∧ b.val + 1 = a.val then 1#1 else 0#1 := by decide +kernel

theorem shift3 : ∀ i : Fin 128, IntOp.shrsi ArithUnit.vector (BitVec.ofNat 32 i.val) 3#32 = BitVec.ofNat 32 (i.val / 8) := by decide +kernel
theorem shift4 : ∀ i : Fin 128, IntOp.shrsi ArithUnit.vector (BitVec.ofNat 32 i.val) 4#32 = BitVec.ofNat 32 (i.val / 16) := by decide +kernel
theorem shift5 : ∀ i : Fin 128, IntOp.shrsi ArithUnit.vector (BitVec.ofNat 32 i.val) 5#32 = BitVec.ofNat 32 (i.val / 32) := by decide +kernel
theorem shift6 : ∀ i : Fin 128, IntOp.shrsi ArithUnit.vector (BitVec.ofNat 32 i.val) 6#32 = BitVec.ofNat 32 (i.val / 64) := by decide +kernel

theorem test (a b : ℕ) (ha : a < 16) (hb : b < 16) {α : Type} (x y : α) :
    Scalar.select (IntOp.andi (IntOp.cmpi CmpIPredicate.eq (IntOp.andi (BitVec.ofNat 32 a) 1#32) 1#32)
      (IntOp.cmpi CmpIPredicate.eq (BitVec.ofNat 32 b) (IntOp.subi (BitVec.ofNat 32 a) 1#32))) x y
    = if a % 2 = 1 ∧ b + 1 = a then x else y := by
  rw [test_small ⟨a, ha⟩ ⟨b, hb⟩]
  dsimp only
  split_ifs <;> simp [Scalar.select]

/-- The level of a pair of steps. -/
theorem lvl_at (i s : Fin 128) : lvl (ix2 i s)
    = if i.val / 8 % 2 = 1 ∧ s.val / 8 + 1 = i.val / 8 then 8#32 else if i.val / 16 % 2 = 1 ∧ s.val / 16 + 1 = i.val / 16 then 16#32
      else if i.val / 32 % 2 = 1 ∧ s.val / 32 + 1 = i.val / 32 then 32#32 else if i.val / 64 % 2 = 1 ∧ s.val / 64 + 1 = i.val / 64 then 64#32 else 0#32 := by
  have hi := i.isLt
  have hs := s.isLt
  unfold lvl
  pointwise [k0_pay1, k0_pay78, k0_pay79, k0_pay80, k0_pay81]
  rw [shift3, shift3, shift4, shift4, shift5, shift5, shift6, shift6]
  rw [test _ _ (by omega) (by omega), test _ _ (by omega) (by omega), test _ _ (by omega) (by omega), test _ _ (by omega) (by omega)]

theorem lvl8 (i s : Fin 128) (h : lvl (ix2 i s) = 8#32) : 8 ≤ i.val ∧ i.val / 8 * 8 - 1 = s.val / 8 * 8 + 7 := by
  rw [lvl_at] at h
  split_ifs at h <;> first | omega | exact absurd h (by decide)
theorem lvl16 (i s : Fin 128) (h : lvl (ix2 i s) = 16#32) : 16 ≤ i.val ∧ i.val / 16 * 16 - 1 = s.val / 16 * 16 + 15 := by
  rw [lvl_at] at h
  split_ifs at h <;> first | omega | exact absurd h (by decide)
theorem lvl32 (i s : Fin 128) (h : lvl (ix2 i s) = 32#32) : 32 ≤ i.val ∧ i.val / 32 * 32 - 1 = s.val / 32 * 32 + 31 := by
  rw [lvl_at] at h
  split_ifs at h <;> first | omega | exact absurd h (by decide)
theorem lvl64 (i s : Fin 128) (h : lvl (ix2 i s) = 64#32) : 64 ≤ i.val ∧ i.val / 64 * 64 - 1 = s.val / 64 * 64 + 63 := by
  rw [lvl_at] at h
  split_ifs at h <;> first | omega | exact absurd h (by decide)

theorem lvl_any (i s : Fin 128) (h : s.val / 8 < i.val / 8) :
    lvl (ix2 i s) = 8#32 ∨ lvl (ix2 i s) = 16#32 ∨ lvl (ix2 i s) = 32#32 ∨ lvl (ix2 i s) = 64#32 := by
  have hi := i.isLt
  have hs := s.isLt
  rw [lvl_at]
  split_ifs <;> first | (exfalso; omega) | simp

theorem lvl_none (i s : Fin 128) (h : ¬s.val / 8 < i.val / 8) : lvl (ix2 i s) = 0#32 := by
  rw [lvl_at]
  split_ifs <;> first | rfl | (exfalso; omega)

end Cert.Proof.HgrnLevels

end

end
-- ==== Proof.HgrnScores.lean ====
module

public import proofs.«01_k».proof.Proof.HgrnChunk
public import proofs.«01_k».proof.Proof.HgrnLevels

/-!
  The scores of a chunk between different blocks of eight steps, and the output they give.
-/

@[expose] public section

set_option maxRecDepth 16384

noncomputable section

namespace Cert.Proof.HgrnScores

open Cert.KernelIdeal Cert.KernelIdeal.Gen Cert.Proof.HgrnTrip Cert.Proof.HgrnFrameI Cert.Proof.HgrnMath Cert.Proof.HgrnChunk Cert.Proof.HgrnLevels
open Idealize.ShloMosaic Idealize.ShloMosaic.TcCoe Idealize.SL.Sem
open Finset

/-- A choice by "at least" on the rows of a chunk. -/
theorem sel_fin (w : ℕ) (hw : w < 128) {α : Type} (i : Fin 128) (a b : α) :
    Scalar.select (IntOp.cmpi .sge (BitVec.ofNat 32 i.val) (BitVec.ofNat 32 w)) a b = if w ≤ i.val then a else b :=
  sel_ge _ _ i.isLt hw a b

theorem ite_of {α : Type} {p : Prop} [Decidable p] {a b c : α} (ha : p → a = c) (hb : ¬p → b = c) : (if p then a else b) = c := by
  by_cases h : p
  · rw [if_pos h, ha h]
  · rw [if_neg h, hb h]

theorem at_row {cm : FVec Ideal S128x128 .f32} {C : ℕ → ℕ → ℝ} (hc : Is cm C) (r j : Fin 128) (n : ℕ) (h : r.val = n) :
    cm (ix2 r j) = ((C n j.val : ℝ) : EReal) := by
  rw [hc, h]

/-- The reference row of the keys at blocks of 16, as the kernel selects it. -/
def selK16 (cm : FVec Ideal S128x128 .f32) (i j : Fin 128) : EReal :=
  if 112 ≤ i.val then cm (ix2 127 j) else if 96 ≤ i.val then cm (ix2 111 j) else if 80 ≤ i.val then cm (ix2 95 j) else if 64 ≤ i.val then cm (ix2 79 j)
  else if 48 ≤ i.val then cm (ix2 63 j) else if 32 ≤ i.val then cm (ix2 47 j) else if 16 ≤ i.val then cm (ix2 31 j) else cm (ix2 15 j)

/-- The reference row of the queries at blocks of 16, as the kernel selects it. -/
def selQ16 (cm : FVec Ideal S128x128 .f32) (i j : Fin 128) : EReal :=
  if 112 ≤ i.val then cm (ix2 111 j) else if 96 ≤ i.val then cm (ix2 95 j) else if 80 ≤ i.val then cm (ix2 79 j) else if 64 ≤ i.val then cm (ix2 63 j)
  else if 48 ≤ i.val then cm (ix2 47 j) else if 32 ≤ i.val then cm (ix2 31 j) else if 16 ≤ i.val then cm (ix2 15 j) else 0

theorem selK16_eq {cm : FVec Ideal S128x128 .f32} {C : ℕ → ℕ → ℝ} (hc : Is cm C) (i j : Fin 128) : selK16 cm i j = ((rk 16 C i.val j.val : ℝ) : EReal) := by
  have := i.isLt
  unfold selK16 rk
  repeat' refine ite_of (fun _ => ?_) (fun _ => ?_)
  all_goals
    refine at_row hc _ _ _ ?_
    omega

theorem selQ16_eq {cm : FVec Ideal S128x128 .f32} {C : ℕ → ℕ → ℝ} (hc : Is cm C) (i j : Fin 128) : selQ16 cm i j = ((rq 16 C i.val j.val : ℝ) : EReal) := by
  have := i.isLt
  unfold selQ16 rq
  repeat' refine ite_of (fun _ => ?_) (fun _ => ?_)
  all_goals
    first
    | (rw [if_pos (by omega)]; rfl)
    | (rw [if_neg (by omega)]
       refine at_row hc _ _ _ ?_
       omega)

set_option maxHeartbeats 2000000 in
/-- The scores after the level of 16. -/
theorem is_s16 {qs kk cm : FVec Ideal S128x128 .f32} {x : IVec S128x128 32} {y : FVec Ideal S128x128 .f32} {Q K C : ℕ → ℕ → ℝ}
    (hq : Is qs Q) (hk : Is kk K) (hc : Is cm C) (i s : Fin 128) :
    k0_pay39 (F := Ideal) row kk qs cm x y (k0_pay33 cm) (k0_pay34 cm) (k0_pay35 cm) (k0_pay36 cm) (k0_pay37 row cm) (k0_pay38 row cm) (ix2 i s)
      = if x (ix2 i s) = 16#32 then ((sc 16 Q K C i.val s.val : ℝ) : EReal) else y (ix2 i s) := by
  have h : k0_pay39 (F := Ideal) row kk qs cm x y (k0_pay33 cm) (k0_pay34 cm) (k0_pay35 cm) (k0_pay36 cm) (k0_pay37 row cm) (k0_pay38 row cm) (ix2 i s)
      = if x (ix2 i s) = 16#32 then
          ∑ d : Fin 128, (qs (ix2 i d) * Ideal.exp (cm (ix2 i d) - selQ16 cm i d)) * (kk (ix2 s d) * Ideal.exp (selK16 cm s d - cm (ix2 s d)))
        else y (ix2 i s) := by
    pointwise [k0_pay39, k0_pay38, k0_pay37, k0_pay36, k0_pay35, k0_pay34, k0_pay33, k0_pay32, k0_pay31, k0_pay30, k0_pay29, row]
    simp only [sel_eq, sel_fin 112 (by decide), sel_fin 96 (by decide), sel_fin 80 (by decide), sel_fin 64 (by decide), sel_fin 48 (by decide),
      sel_fin 32 (by decide), sel_fin 16 (by decide)]
    rfl
  rw [h]
  simp only [selQ16_eq hc, selK16_eq hc, hq _ _, hk _ _, hc _ _, ← EReal.coe_sub, Ideal.exp_coe, ← EReal.coe_mul, sum_coe]
  unfold sc
  rw [← sum_lanes (n := 128)]

/-- The reference row of the keys at blocks of 8, as the kernel selects it. -/
def selK8 (cm : FVec Ideal S128x128 .f32) (i j : Fin 128) : EReal :=
  if 120 ≤ i.val then cm (ix2 127 j) else if 112 ≤ i.val then cm (ix2 119 j) else if 104 ≤ i.val then cm (ix2 111 j) else if 96 ≤ i.val then cm (ix2 103 j)
  else if 88 ≤ i.val then cm (ix2 95 j) else if 80 ≤ i.val then cm (ix2 87 j) else if 72 ≤ i.val then cm (ix2 79 j) else if 64 ≤ i.val then cm (ix2 71 j)
  else if 56 ≤ i.val then cm (ix2 63 j) else if 48 ≤ i.val then cm (ix2 55 j) else if 40 ≤ i.val then cm (ix2 47 j) else if 32 ≤ i.val then cm (ix2 39 j)
  else if 24 ≤ i.val then cm (ix2 31 j) else if 16 ≤ i.val then cm (ix2 23 j) else if 8 ≤ i.val then cm (ix2 15 j) else cm (ix2 7 j)

/-- The reference row of the queries at blocks of 8, as the kernel selects it. -/
def selQ8 (cm : FVec Ideal S128x128 .f32) (i j : Fin 128) : EReal :=
  if 120 ≤ i.val then cm (ix2 119 j) else if 112 ≤ i.val then cm (ix2 111 j) else if 104 ≤ i.val then cm (ix2 103 j) else if 96 ≤ i.val then cm (ix2 95 j)
  else if 88 ≤ i.val then cm (ix2 87 j) else if 80 ≤ i.val then cm (ix2 79 j) else if 72 ≤ i.val then cm (ix2 71 j) else if 64 ≤ i.val then cm (ix2 63 j)
  else if 56 ≤ i.val then cm (ix2 55 j) else if 48 ≤ i.val then cm (ix2 47 j) else if 40 ≤ i.val then cm (ix2 39 j) else if 32 ≤ i.val then cm (ix2 31 j)
  else if 24 ≤ i.val then cm (ix2 23 j) else if 16 ≤ i.val then cm (ix2 15 j) else if 8 ≤ i.val then cm (ix2 7 j) else 0

theorem selK8_eq {cm : FVec Ideal S128x128 .f32} {C : ℕ → ℕ → ℝ} (hc : Is cm C) (i j : Fin 128) : selK8 cm i j = ((rk 8 C i.val j.val : ℝ) : EReal) := by
  have := i.isLt
  unfold selK8 rk
  repeat' refine ite_of (fun _ => ?_) (fun _ => ?_)
  all_goals
    refine at_row hc _ _ _ ?_
    omega

theorem selQ8_eq {cm : FVec Ideal S128x128 .f32} {C : ℕ → ℕ → ℝ} (hc : Is cm C) (i j : Fin 128) : selQ8 cm i j = ((rq 8 C i.val j.val : ℝ) : EReal) := by
  have := i.isLt
  unfold selQ8 rq
  repeat' refine ite_of (fun _ => ?_) (fun _ => ?_)
  all_goals
    first
    | (rw [if_pos (by omega)]; rfl)
    | (rw [if_neg (by omega)]
       refine at_row hc _ _ _ ?_
       omega)

/-- The score of the step `s` of a chunk for its step `t`. -/
def sc0 (Q K C : ℕ → ℕ → ℝ) (t s : ℕ) : ℝ := ∑ d ∈ range 128, Q t d * K s d * Real.exp (C t d - C s d)

/-- Where the reference rows are the same row the reference drops out of the score. -/
theorem sc_eq (c : ℕ) (Q K C : ℕ → ℕ → ℝ) (t s : ℕ) (h : c ≤ t ∧ t / c * c - 1 = s / c * c + (c - 1)) : sc c Q K C t s = sc0 Q K C t s := by
  unfold sc sc0
  refine sum_congr rfl fun d _ => ?_
  have e : rk c C s d = rq c C t d := by
    unfold rk rq
    rw [if_neg (by omega), h.2]
  rw [e, show C t d - C s d = (C t d - rq c C t d) + (rq c C t d - C s d) by ring, Real.exp_add]
  ring

/-- The score between different blocks of eight, zero inside a block. -/
def scFar (Q K C : ℕ → ℕ → ℝ) (t s : ℕ) : ℝ := if s / 8 < t / 8 then sc0 Q K C t s else 0

/-- The choice among the levels is the score. -/
theorem levels (Q K C : ℕ → ℕ → ℝ) (i s : Fin 128) :
    (if lvl (ix2 i s) = 8#32 then ((sc 8 Q K C i.val s.val : ℝ) : EReal) else if lvl (ix2 i s) = 16#32 then ((sc 16 Q K C i.val s.val : ℝ) : EReal)
      else if lvl (ix2 i s) = 32#32 then ((sc 32 Q K C i.val s.val : ℝ) : EReal) else if lvl (ix2 i s) = 64#32 then ((sc 64 Q K C i.val s.val : ℝ) : EReal) else 0)
    = ((scFar Q K C i.val s.val : ℝ) : EReal) := by
  unfold scFar
  by_cases hlt : s.val / 8 < i.val / 8
  · rw [if_pos hlt]
    split_ifs with h8 h16 h32 h64
    · rw [sc_eq 8 _ _ _ _ _ (lvl8 i s h8)]
    · rw [sc_eq 16 _ _ _ _ _ (lvl16 i s h16)]
    · rw [sc_eq 32 _ _ _ _ _ (lvl32 i s h32)]
    · rw [sc_eq 64 _ _ _ _ _ (lvl64 i s h64)]
    · rcases lvl_any i s hlt with h | h | h | h
      · exact absurd h h8
      · exact absurd h h16
      · exact absurd h h32
      · exact absurd h h64
  · rw [if_neg hlt, lvl_none i s hlt]
    simp

set_option maxHeartbeats 4000000 in
/-- The output before the band of the own block. -/
theorem is_far {vc qs kk cm st : FVec Ideal S128x128 .f32} {Q K C V S : ℕ → ℕ → ℝ}
    (hq : Is qs Q) (hk : Is kk K) (hc : Is cm C) (hv : Is vc V) (hs : Is st S) :
    Is (far row vc kk qs cm lvl st) (fun t e => (∑ d ∈ range 128, Q t d * Real.exp (C t d) * S e d)
      + (∑ s ∈ range 128, scFar Q K C t s * V s e) + (∑ d ∈ range 128, Q t d * K t d) * V t e) := by
  intro i j
  have h : far row vc kk qs cm lvl st (ix2 i j)
      = k0_pay16 qs cm st (ix2 i j) + (∑ s : Fin 128, (if lvl (ix2 i s) = 8#32 then
          ∑ d : Fin 128, (qs (ix2 i d) * Ideal.exp (cm (ix2 i d) - selQ8 cm i d)) * (kk (ix2 s d) * Ideal.exp (selK8 cm s d - cm (ix2 s d)))
        else scores16 row kk qs cm lvl (ix2 i s)) * vc (ix2 s j)) + (∑ d : Fin 128, qs (ix2 i d) * kk (ix2 i d)) * vc (ix2 i j) := by
    unfold far
    generalize k0_pay16 qs cm st = a
    generalize scores16 row kk qs cm lvl = b
    generalize (lvl : IVec S128x128 32) = x
    pointwise [k0_pay66, k0_pay15, rk8, rq8, k0_pay58, k0_pay57, k0_pay56, k0_pay55, k0_pay54, k0_pay53, k0_pay52, k0_pay51, k0_pay50, k0_pay49, k0_pay48,
      k0_pay47, k0_pay46, k0_pay45, k0_pay44, k0_pay43, k0_pay42, k0_pay41, k0_pay40, row]
    simp only [sel_eq, sel_fin 120 (by decide), sel_fin 112 (by decide), sel_fin 104 (by decide), sel_fin 96 (by decide), sel_fin 88 (by decide),
      sel_fin 80 (by decide), sel_fin 72 (by decide), sel_fin 64 (by decide), sel_fin 56 (by decide), sel_fin 48 (by decide), sel_fin 40 (by decide),
      sel_fin 32 (by decide), sel_fin 24 (by decide), sel_fin 16 (by decide), sel_fin 8 (by decide)]
    rfl
  have h16 : ∀ s : Fin 128, scores16 row kk qs cm lvl (ix2 i s)
      = if lvl (ix2 i s) = 16#32 then ((sc 16 Q K C i.val s.val : ℝ) : EReal) else if lvl (ix2 i s) = 32#32 then ((sc 32 Q K C i.val s.val : ℝ) : EReal)
        else if lvl (ix2 i s) = 64#32 then ((sc 64 Q K C i.val s.val : ℝ) : EReal) else 0 := by
    intro s
    unfold scores16
    rw [is_s16 hq hk hc, is_s32 (is_q32 hq hc) (is_k32 hk hc), is_s64 (is_q64 hq hc) (is_k64 hk hc)]
    rfl
  have h8 : ∀ s : Fin 128, ∑ d : Fin 128, (qs (ix2 i d) * Ideal.exp (cm (ix2 i d) - selQ8 cm i d)) * (kk (ix2 s d) * Ideal.exp (selK8 cm s d - cm (ix2 s d)))
      = ((sc 8 Q K C i.val s.val : ℝ) : EReal) := by
    intro s
    simp only [selQ8_eq hc, selK8_eq hc, hq _ _, hk _ _, hc _ _, ← EReal.coe_sub, Ideal.exp_coe, ← EReal.coe_mul, sum_coe]
    unfold sc
    rw [← sum_lanes (n := 128)]
  rw [h]
  simp only [h8, h16, levels]
  rw [is_fromState hq hc hs]
  simp only [hq _ _, hk _ _, hv _ _, ← EReal.coe_mul, sum_coe, ← EReal.coe_add]
  rw [← sum_lanes (n := 128), ← sum_lanes (n := 128), ← sum_lanes (n := 128)]

end Cert.Proof.HgrnScores

end

end
-- ==== Proof.HgrnBand.lean ====
module

public import proofs.«01_k».proof.Proof.HgrnScores

/-!
  The output of a chunk: the band of the own block of eight steps, the normalization and the gate.
-/

@[expose] public section

set_option maxRecDepth 16384

noncomputable section

namespace Cert.Proof.HgrnBand

open Cert.KernelIdeal Cert.KernelIdeal.Gen Cert.Proof.HgrnTrip Cert.Proof.HgrnFrameI Cert.Proof.HgrnMath Cert.Proof.HgrnChunk Cert.Proof.HgrnLevels
  Cert.Proof.HgrnScores
open Idealize.ShloMosaic Idealize.ShloMosaic.TcCoe Idealize.SL.Sem
open Finset

/-- The row `δ` steps earlier, around the end. -/
def back (δ : ℕ) (i : Fin 128) : Fin 128 := ⟨(i.val + 128 - δ) % 128, Nat.mod_lt _ (by decide)⟩

/-- The term of the band from `δ` steps earlier. -/
def term (δ : ℕ) (vc kk qs cm : FVec Ideal S128x128 .f32) (i j : Fin 128) : EReal :=
  (∑ x : Fin 128, Scalar.select (IntOp.cmpi .sge (IntOp.andi (BitVec.ofNat 32 i.val) 7#32) (BitVec.ofNat 32 δ))
    (qs (ix2 i x) * kk (ix2 (back δ i) x) * Ideal.exp (min (cm (ix2 i x) - cm (ix2 (back δ i) x)) 0)) 0) * vc (ix2 (back δ i) j)

theorem low3 : ∀ i : Fin 128, IntOp.andi (BitVec.ofNat 32 i.val) 7#32 = BitVec.ofNat 32 (i.val % 8) := by decide +kernel

/-- The term of the band over the reals. -/
theorem term_eq (δ : ℕ) (hδ : δ < 8) {vc qs kk cm : FVec Ideal S128x128 .f32} {Q K C V : ℕ → ℕ → ℝ}
    (hq : Is qs Q) (hk : Is kk K) (hc : Is cm C) (hv : Is vc V) (hmono : ∀ t s d, s ≤ t → C t d - C s d ≤ 0) (i j : Fin 128) :
    term δ vc kk qs cm i j = ((if δ ≤ i.val % 8 then sc0 Q K C i.val (i.val - δ) * V (i.val - δ) j.val else 0 : ℝ) : EReal) := by
  have hi := i.isLt
  unfold term
  rw [low3]
  simp only [sel_ge _ _ (show i.val % 8 < 128 by omega) (show δ < 128 by omega)]
  by_cases h : δ ≤ i.val % 8
  · have e : (back δ i).val = i.val - δ := by unfold back; dsimp only; omega
    have hm : ∀ x : Fin 128, min (((C i.val x.val - C (i.val - δ) x.val : ℝ) : EReal)) 0 = ((C i.val x.val - C (i.val - δ) x.val : ℝ) : EReal) := fun x =>
      min_eq_left (by rw [zero_coe]; exact EReal.coe_le_coe_iff.mpr (hmono _ _ _ (by omega)))
    simp only [if_pos h, hq _ _, hk _ _, hc _ _, hv _ _, e, ← EReal.coe_sub, hm, Ideal.exp_coe, ← EReal.coe_mul, sum_coe]
    unfold sc0
    rw [← sum_lanes (n := 128)]
  · simp only [if_neg h, sum_const_zero, zero_mul]
    rfl

set_option maxHeartbeats 2000000 in
theorem band3 (vc kk qs cm a : FVec Ideal S128x128 .f32) (i j : Fin 128) :
    k0_pay70 vc kk qs cm (k0_pay65 row) a (k0_pay67 vc) (k0_pay68 kk qs cm) (k0_pay69 row) (ix2 i j)
      = a (ix2 i j) + term 1 vc kk qs cm i j + term 2 vc kk qs cm i j + term 3 vc kk qs cm i j := by
  pointwise [k0_pay70, k0_pay69, k0_pay68, k0_pay67, k0_pay65, row]
  rfl

set_option maxHeartbeats 2000000 in
theorem band5 (vc kk qs cm a : FVec Ideal S128x128 .f32) (i j : Fin 128) :
    k0_pay71 vc kk qs cm (k0_pay65 row) a 4#32 (ix2 i j) = a (ix2 i j) + term 4 vc kk qs cm i j + term 5 vc kk qs cm i j := by
  pointwise [k0_pay71, k0_pay65, row]
  rfl

/-- The normalized row times the weight, as the kernel forms it. -/
def normed (z : Fin 128 → EReal) (w : EReal) (j : Fin 128) : EReal :=
  z j * Ideal.rsqrt (Ideal.div (∑ x : Fin 128, z x * z x) (Ideal.ofBits .f32 0x43000000#32) + Ideal.ofBits .f32 0x358637BD#32) * w

set_option maxHeartbeats 2000000 in
theorem band7 (ng : FVec Ideal S1x128 .f32) (vc kk qs cm a : FVec Ideal S128x128 .f32) (i j : Fin 128) :
    k0_pay75 ng vc kk qs cm (k0_pay65 row) a (k0_pay72 vc) (k0_pay73 kk qs) (k0_pay74 cm) (ix2 i j)
      = normed (fun x => a (ix2 i x) + term 6 vc kk qs cm i x + term 7 vc kk qs cm i x) (ng (ix2 0 j)) j := by
  pointwise [k0_pay75, k0_pay74, k0_pay73, k0_pay72, k0_pay65, row]
  rfl

/-- The gate, as the kernel forms it. -/
def gate (g : EReal) : EReal := g * Ideal.div 1 (1 + Ideal.exp (0 - g))

/-- The output of a chunk over the reals before normalization. -/
def pre (Q K C V S : ℕ → ℕ → ℝ) (t e : ℕ) : ℝ :=
  (∑ d ∈ range 128, Q t d * Real.exp (C t d) * S e d) + ∑ s ∈ range (t + 1), sc0 Q K C t s * V s e

set_option maxHeartbeats 2000000 in
/-- What a trip stores: the normalized, weighted and gated output of the chunk. -/
theorem chunkOut_eq {ng : FVec Ideal S1x128 .f32} {vc gc qs kk cm st : FVec Ideal S128x128 .f32} {Q K C V S : ℕ → ℕ → ℝ}
    (hq : Is qs Q) (hk : Is kk K) (hc : Is cm C) (hv : Is vc V) (hs : Is st S) (hmono : ∀ t s d, s ≤ t → C t d - C s d ≤ 0) (i j : Fin 128) :
    chunkOut row ng vc gc kk qs cm lvl st (ix3 0 i j)
      = normed (fun x => ((pre Q K C V S i.val x.val : ℝ) : EReal)) (ng (ix2 0 j)) j * gate (gc (ix2 i j)) := by
  have hz : ∀ x : Fin 128, far row vc kk qs cm lvl st (ix2 i x) + term 1 vc kk qs cm i x + term 2 vc kk qs cm i x + term 3 vc kk qs cm i x
      + term 4 vc kk qs cm i x + term 5 vc kk qs cm i x + term 6 vc kk qs cm i x + term 7 vc kk qs cm i x = ((pre Q K C V S i.val x.val : ℝ) : EReal) := by
    intro x
    rw [is_far hq hk hc hv hs, term_eq 1 (by decide) hq hk hc hv hmono, term_eq 2 (by decide) hq hk hc hv hmono, term_eq 3 (by decide) hq hk hc hv hmono,
      term_eq 4 (by decide) hq hk hc hv hmono, term_eq 5 (by decide) hq hk hc hv hmono, term_eq 6 (by decide) hq hk hc hv hmono,
      term_eq 7 (by decide) hq hk hc hv hmono]
    simp only [← EReal.coe_add]
    congr 1
    have hb := band (fun s => sc0 Q K C i.val s * V s x.val) i.val i.isLt
    have h0 : sc0 Q K C i.val i.val = ∑ d ∈ range 128, Q i.val d * K i.val d := by
      unfold sc0
      refine sum_congr rfl fun d _ => ?_
      rw [sub_self, Real.exp_zero, mul_one]
    have hf : (∑ s ∈ range 128, scFar Q K C i.val s * V s x.val) = ∑ s ∈ range 128, if s / 8 < i.val / 8 then sc0 Q K C i.val s * V s x.val else 0 := by
      refine sum_congr rfl fun s _ => ?_
      unfold scFar
      rw [ite_mul, zero_mul]
    unfold pre
    rw [← hb, hf]
    simp only [sum_range_succ _ 7, sum_range_succ _ 6, sum_range_succ _ 5, sum_range_succ _ 4, sum_range_succ _ 3, sum_range_succ _ 2, sum_range_succ _ 1,
      sum_range_one, Nat.zero_le, if_true, Nat.sub_zero, h0]
    ring
  unfold chunkOut
  generalize hA : k0_pay71 vc kk qs cm (k0_pay65 row)
        (k0_pay70 vc kk qs cm (k0_pay65 row) (far row vc kk qs cm lvl st) (k0_pay67 vc) (k0_pay68 kk qs cm) (k0_pay69 row)) 4#32 = A
  generalize hB : k0_pay75 ng vc kk qs cm (k0_pay65 row) A (k0_pay72 vc) (k0_pay73 kk qs) (k0_pay74 cm) = B
  have h : k0_pay5 gc B (k0_pay76 gc) k0_pay77 (ix3 0 i j) = B (ix2 i j) * gate (gc (ix2 i j)) := by
    pointwise [k0_pay5, k0_pay76, k0_pay77]
    rfl
  rw [h, ← hB, band7]
  simp only [← hA, band5, band3, hz]

end Cert.Proof.HgrnBand

end

end
-- ==== Proof.HgrnSpec.lean ====
module

public import Idealize.ShloMosaic.Lib.Pointwise
public import Mathlib.Analysis.SpecialFunctions.Log.Basic
public import proofs.«01_k».proof.Proof.HgrnMath

/-!
  The recurrence's gates over the reals: the sigmoid, the forget gate, its logarithm, the keys and the queries.
-/

@[expose] public section

noncomputable section

namespace Cert.Proof.HgrnSpec

open Idealize.ShloMosaic

/-- The sigmoid of an extended real. -/
def sg (x : EReal) : ℝ := (Ideal.div 1 (1 + Ideal.exp (0 - x))).toReal

theorem sg_all (x : EReal) : Ideal.div 1 (1 + Ideal.exp (0 - x)) = ((sg x : ℝ) : EReal) ∧ 0 ≤ sg x ∧ sg x ≤ 1 := by
  unfold sg
  induction x using EReal.rec with
  | bot =>
    have h : Ideal.div 1 (1 + Ideal.exp (0 - ⊥)) = ((0 : ℝ) : EReal) := by
      rw [show (0 : EReal) - ⊥ = ⊤ from rfl, show Ideal.exp ⊤ = ⊤ from rfl, show (1 : EReal) + ⊤ = ⊤ from rfl]
      unfold Ideal.div
      rw [if_neg (by decide), EReal.inv_top, mul_zero]
      rfl
    rw [h, EReal.toReal_coe]
    simp
  | top =>
    have h : Ideal.div 1 (1 + Ideal.exp (0 - ⊤)) = ((1 : ℝ) : EReal) := by
      rw [show (0 : EReal) - ⊤ = ⊥ from rfl, show Ideal.exp ⊥ = 0 from rfl, add_zero,
        show (1 : EReal) = ((1 : ℝ) : EReal) from rfl, Ideal.div_coe one_ne_zero, ← EReal.coe_mul, div_one, mul_one]
    rw [h, EReal.toReal_coe]
    simp
  | coe x =>
    have h : Ideal.div 1 (1 + Ideal.exp (0 - (x : EReal))) = ((1 / (1 + Real.exp (0 - x)) : ℝ) : EReal) := by
      rw [show (0 : EReal) = ((0 : ℝ) : EReal) from rfl, show (1 : EReal) = ((1 : ℝ) : EReal) from rfl, ← EReal.coe_sub, Ideal.exp_coe, ← EReal.coe_add,
        Ideal.div_coe (by positivity), ← EReal.coe_mul, one_mul]
    rw [h, EReal.toReal_coe]
    refine ⟨rfl, by positivity, ?_⟩
    rw [div_le_one (by positivity)]
    linarith [Real.exp_pos (0 - x)]

variable (lam : ℕ → ℝ) (F : ℕ → ℕ → EReal) (q0 : ℕ → ℕ → ℝ)

/-- The forget gate. -/
def fg (n d : ℕ) : ℝ := lam d + (1 - lam d) * sg (F n d)

/-- Its logarithm. -/
def Lg (n d : ℕ) : ℝ := Real.log (fg lam F n d)

/-- The keys. -/
def Kg (n d : ℕ) : ℝ := 1 - fg lam F n d

/-- The queries. -/
def Qg (n d : ℕ) : ℝ := q0 n d * sg (q0 n d : EReal)

variable {lam}

theorem fg_pos (h0 : ∀ d, 0 < lam d) (h1 : ∀ d, lam d ≤ 1) (n d : ℕ) : 0 < fg lam F n d := by
  obtain ⟨-, hs, -⟩ := sg_all (F n d)
  have := mul_nonneg (sub_nonneg.2 (h1 d)) hs
  unfold fg
  linarith [h0 d]

theorem fg_le (h1 : ∀ d, lam d ≤ 1) (n d : ℕ) : fg lam F n d ≤ 1 := by
  obtain ⟨-, -, hs⟩ := sg_all (F n d)
  have := mul_le_mul_of_nonneg_left hs (sub_nonneg.2 (h1 d))
  unfold fg
  linarith

theorem Lg_le (h0 : ∀ d, 0 < lam d) (h1 : ∀ d, lam d ≤ 1) (n d : ℕ) : Lg lam F n d ≤ 0 :=
  Real.log_nonpos (fg_pos F h0 h1 n d).le (fg_le F h1 n d)

/-- The logarithm of the forget gate among the extended reals. -/
theorem log_fg (h0 : ∀ d, 0 < lam d) (h1 : ∀ d, lam d ≤ 1) (n d : ℕ) : Ideal.log ((fg lam F n d : ℝ) : EReal) = ((Lg lam F n d : ℝ) : EReal) := by
  rw [Ideal.log_coe, if_neg (not_le.2 (fg_pos F h0 h1 n d))]
  rfl

end Cert.Proof.HgrnSpec

end

end
-- ==== Proof.HgrnKernel.lean ====
module

public import proofs.«01_k».proof.Proof.HgrnBand
public import proofs.«01_k».proof.Proof.HgrnSpec

/-!
  The recurrence's kernel over the ideal floats, a whole block: every row of the output is the normalized, weighted
  and gated output of the recurrence over the reals.
-/

@[expose] public section

set_option maxRecDepth 16384

noncomputable section

namespace Cert.Proof.HgrnKernel

open Cert.KernelIdeal Cert.KernelIdeal.Gen Cert.Proof.HgrnTrip Cert.Proof.HgrnFrameI Cert.Proof.HgrnMath Cert.Proof.HgrnChunk Cert.Proof.HgrnBand Cert.Proof.HgrnSpec
open Idealize.ShloMosaic Idealize.ShloMosaic.TcCoe Idealize.SL.Sem
open Finset

theorem off2_eq : ∀ k : Fin k0_t1_loop.trips, k0_off2 k = ![0, k.val * 128] := by decide +kernel

theorem trip_lt (k : Fin k0_t1_loop.trips) (i : Fin 128) : k.val * 128 + i.val < 2048 := by
  have h1 : k.val < 16 := k.isLt
  have h2 := i.isLt
  omega

/-- A row of a trip's rows. -/
theorem ld_rows {e : EltTy} (x : Vec Ideal S1x2048x128 e) (k : Fin k0_t1_loop.trips) (i j : Fin 128) :
    View.ld x (rows k) (ix3 0 i j) = x (ix3 0 ⟨k.val * 128 + i.val, trip_lt k i⟩ j) := by
  refine congrArg x (funext fun a => Fin.ext ?_)
  have h := off1_eq k
  match a with
  | ⟨0, _⟩ => rfl
  | ⟨1, _⟩ =>
    show k0_off1 k 1 + 1 * i.val = k.val * 128 + i.val
    rw [h, one_mul]
    rfl
  | ⟨2, _⟩ =>
    show k0_off1 k 2 + 1 * j.val = j.val
    rw [h, one_mul]
    exact Nat.zero_add _

/-- A column of a trip's columns. -/
theorem ld_cols {e : EltTy} (x : Vec Ideal S128x2048 e) (k : Fin k0_t1_loop.trips) (j i : Fin 128) :
    View.ld x (cols k) (ix2 j i) = x (ix2 j ⟨k.val * 128 + i.val, trip_lt k i⟩) := by
  refine congrArg x (funext fun a => Fin.ext ?_)
  have h := off2_eq k
  match a with
  | ⟨0, _⟩ =>
    show k0_off2 k 0 + 1 * j.val = j.val
    rw [h, one_mul]
    exact Nat.zero_add _
  | ⟨1, _⟩ =>
    show k0_off2 k 1 + 1 * i.val = k.val * 128 + i.val
    rw [h, one_mul]
    rfl

theorem one_coe : (1 : EReal) = ((1 : ℝ) : EReal) := rfl

/-- The forget gate. -/
theorem forget_at (x5 : Vec Ideal S1x128 .f32) (xf : Vec Ideal S1x128x128 .f32) (i j : Fin 128) :
    k0_pay8 (k0_pay3 x5) xf (ix2 i j) = x5 (ix2 0 j) + (1 - x5 (ix2 0 j)) * ((sg (xf (ix3 0 i j)) : ℝ) : EReal) := by
  rw [← (sg_all _).1]
  pointwise [k0_pay8, k0_pay3]

theorem keys_at (x5 : Vec Ideal S1x128 .f32) (xf : Vec Ideal S1x128x128 .f32) (i j : Fin 128) :
    k0_pay9 (k0_pay3 x5) xf (ix2 i j) = 1 - k0_pay8 (k0_pay3 x5) xf (ix2 i j) := by
  pointwise [k0_pay9]

theorem logs_at (x5 : Vec Ideal S1x128 .f32) (xf : Vec Ideal S1x128x128 .f32) (i j : Fin 128) :
    k0_pay11 (k0_pay3 x5) xf (ix2 i j) = Ideal.log (k0_pay8 (k0_pay3 x5) xf (ix2 i j)) := by
  pointwise [k0_pay11]

theorem queries_at (xq : Vec Ideal S1x128x128 .f32) (i j : Fin 128) :
    k0_pay10 xq (ix2 i j) = xq (ix3 0 i j) * ((sg (xq (ix3 0 i j)) : ℝ) : EReal) := by
  rw [← (sg_all _).1]
  pointwise [k0_pay10]

theorem values_at (xi : Vec Ideal S1x128x128 .f32) (i j : Fin 128) : k0_pay6 xi (ix2 i j) = xi (ix3 0 i j) := by
  pointwise [k0_pay6]

theorem gates_at (xg : Vec Ideal S1x128x128 .f32) (i j : Fin 128) : k0_pay7 xg (ix2 i j) = xg (ix3 0 i j) := by
  pointwise [k0_pay7]

theorem weights_at (x6 : Vec Ideal S1x128 .f32) (j : Fin 128) : k0_pay4 x6 (ix2 0 j) = x6 (ix2 0 j) := by
  pointwise [k0_pay4]

section Block

variable {x0 x1 x2 x3 : Vec Ideal S1x2048x128 .f32} {x4 : Vec Ideal S128x2048 .bf16} {x5 x6 : Vec Ideal S1x128 .f32}
  {q0 V : ℕ → ℕ → ℝ} {F : ℕ → ℕ → EReal} {lam : ℕ → ℝ}
  (h0 : ∀ (r : Fin 2048) (d : Fin 128), x0 (ix3 0 r d) = ((q0 r.val d.val : ℝ) : EReal))
  (h1 : ∀ (r : Fin 2048) (d : Fin 128), x1 (ix3 0 r d) = F r.val d.val)
  (h2 : ∀ (r : Fin 2048) (d : Fin 128), x2 (ix3 0 r d) = ((V r.val d.val : ℝ) : EReal))
  (h4 : ∀ (e : Fin 128) (r : Fin 2048), x4 (ix2 e r) = ((V r.val e.val : ℝ) : EReal))
  (h5 : ∀ d : Fin 128, x5 (ix2 0 d) = ((lam d.val : ℝ) : EReal))
  (hl0 : ∀ d, 0 < lam d) (hl1 : ∀ d, lam d ≤ 1)

include h1 h5 in
theorem forget_trip (k : Fin k0_t1_loop.trips) (i j : Fin 128) :
    k0_pay8 (k0_pay3 x5) (View.ld x1 (rows k)) (ix2 i j) = ((fg lam F (k.val * 128 + i.val) j.val : ℝ) : EReal) := by
  have hld : View.ld x1 (rows k) (ix3 0 i j) = F (k.val * 128 + i.val) j.val := (ld_rows x1 k i j).trans (h1 _ _)
  refine (forget_at x5 (View.ld x1 (rows k)) i j).trans ?_
  rw [hld, h5, one_coe, ← EReal.coe_sub, ← EReal.coe_mul, ← EReal.coe_add]
  rfl

include h1 h5 in
theorem keys_trip (k : Fin k0_t1_loop.trips) :
    Is (k0_pay9 (k0_pay3 x5) (View.ld x1 (rows k))) (fun i d => Kg lam F (k.val * 128 + i) d) := by
  intro i j
  refine (keys_at x5 (View.ld x1 (rows k)) i j).trans ?_
  refine (congrArg (fun z : EReal => 1 - z) (forget_trip h1 h5 k i j)).trans ?_
  rw [one_coe, ← EReal.coe_sub]
  rfl

include h1 h5 hl0 hl1 in
theorem logs_trip (k : Fin k0_t1_loop.trips) :
    Is (k0_pay11 (k0_pay3 x5) (View.ld x1 (rows k))) (fun i d => Lg lam F (k.val * 128 + i) d) := by
  intro i j
  exact (logs_at x5 (View.ld x1 (rows k)) i j).trans ((congrArg Ideal.log (forget_trip h1 h5 k i j)).trans (log_fg F hl0 hl1 _ _))

include h1 h5 hl0 hl1 in
theorem cum_trip (k : Fin k0_t1_loop.trips) :
    Is (HgrnTrip.cum row x5 (View.ld x1 (rows k))) (fun t d => HgrnMath.cum (Lg lam F) (k.val * 128) t d) :=
  is_cum (logs_trip h1 h5 hl0 hl1 k)

include h0 in
theorem queries_trip (k : Fin k0_t1_loop.trips) :
    Is (k0_pay10 (View.ld x0 (rows k))) (fun i d => Qg q0 (k.val * 128 + i) d) := by
  intro i j
  have hld : View.ld x0 (rows k) (ix3 0 i j) = ((q0 (k.val * 128 + i.val) j.val : ℝ) : EReal) := (ld_rows x0 k i j).trans (h0 _ _)
  refine (queries_at (View.ld x0 (rows k)) i j).trans ?_
  rw [hld, ← EReal.coe_mul]
  rfl

include h2 in
theorem values_trip (k : Fin k0_t1_loop.trips) :
    Is (k0_pay6 (View.ld x2 (rows k))) (fun i d => V (k.val * 128 + i) d) := by
  intro i j
  exact (values_at (View.ld x2 (rows k)) i j).trans ((ld_rows x2 k i j).trans (h2 _ _))

include h1 h4 h5 hl0 hl1 in
/-- The state before trip `n` is the recurrence's state after `128 n` steps. -/
theorem is_stateAt (n : ℕ) (hn : n ≤ 16) :
    Is (stateAt row x1 x4 x5 n) (St (Lg lam F) (Kg lam F) V (n * 128)) := by
  induction n with
  | zero =>
    intro i j
    rw [Nat.zero_mul, St_zero]
    pointwise [stateAt, k0_pay2]
    rfl
  | succ n ih =>
    have ih := ih (by omega)
    have hk : n < k0_t1_loop.trips := (by omega : n < 16)
    have e : stateAt row x1 x4 x5 (n + 1) = tripState row x1 x4 x5 ⟨n, hk⟩ (stateAt row x1 x4 x5 n) := by
      simp only [stateAt, dif_pos hk]
    rw [e]
    intro i j
    have h := is_state (keys_trip (lam := lam) (F := F) h1 h5 ⟨n, hk⟩) (cum_trip (lam := lam) (F := F) h1 h5 hl0 hl1 ⟨n, hk⟩)
      (tot_eq (logs_trip (lam := lam) (F := F) h1 h5 hl0 hl1 ⟨n, hk⟩)) ih
      (w := View.ld x4 (cols ⟨n, hk⟩)) (W := fun e s => V (n * 128 + s) e) (fun a b => by rw [ld_cols, h4]) i j
    refine h.trans ?_
    rw [show (n + 1) * 128 = n * 128 + (127 + 1) by omega, St_chunk]

include h0 h1 h2 h4 h5 hl0 hl1 in
/-- A row of the block's output. -/
theorem out_at (r : Fin 2048) (j : Fin 128) :
    outB x0 x1 x2 x3 x4 x5 x6 (ix3 0 r j)
      = normed (fun x => ((O (Lg lam F) (Qg q0) (Kg lam F) V r.val x.val : ℝ) : EReal)) (x6 (ix2 0 j)) j * gate (x3 (ix3 0 r j)) := by
  have hr := r.isLt
  have hk : r.val / 128 < k0_t1_loop.trips := (by omega : r.val / 128 < 16)
  have hb := chunkOut_eq (ng := k0_pay4 x6) (gc := k0_pay7 (View.ld x3 (rows ⟨r.val / 128, hk⟩)))
    (queries_trip h0 ⟨r.val / 128, hk⟩) (keys_trip (lam := lam) (F := F) h1 h5 ⟨r.val / 128, hk⟩)
    (cum_trip (lam := lam) (F := F) h1 h5 hl0 hl1 ⟨r.val / 128, hk⟩) (values_trip h2 ⟨r.val / 128, hk⟩)
    (is_stateAt (lam := lam) (F := F) h1 h4 h5 hl0 hl1 (r.val / 128) (by omega))
    (fun t s d hts => cum_le _ (Lg_le F hl0 hl1) _ _ _ _ hts) ⟨r.val % 128, Nat.mod_lt _ (by decide)⟩ j
  have hd : r.val / 128 * 128 + r.val % 128 = r.val := by omega
  refine Eq.trans ?_ (hb.trans ?_)
  · rfl
  · have hg : k0_pay7 (View.ld x3 (rows ⟨r.val / 128, hk⟩)) (ix2 ⟨r.val % 128, Nat.mod_lt _ (by decide)⟩ j) = x3 (ix3 0 r j) := by
      refine (gates_at (View.ld x3 (rows ⟨r.val / 128, hk⟩)) _ j).trans ((ld_rows x3 ⟨r.val / 128, hk⟩ _ j).trans ?_)
      refine congrArg (fun n => x3 (ix3 0 n j)) (Fin.ext ?_)
      show r.val / 128 * 128 + r.val % 128 = r.val
      omega
    rw [weights_at, hg]
    have hz : ∀ x : Fin 128, pre (fun i d => Qg q0 (r.val / 128 * 128 + i) d) (fun i d => Kg lam F (r.val / 128 * 128 + i) d)
        (fun t d => HgrnMath.cum (Lg lam F) (r.val / 128 * 128) t d) (fun i d => V (r.val / 128 * 128 + i) d)
        (St (Lg lam F) (Kg lam F) V (r.val / 128 * 128)) (r.val % 128) x.val = O (Lg lam F) (Qg q0) (Kg lam F) V r.val x.val := by
      intro x
      conv_rhs => rw [← hd, O_chunk]
      rfl
    simp only [hz]

end Block

end Cert.Proof.HgrnKernel

end

end
-- ==== Proof.HgrnWindow.lean ====
module

public import proofs.«01_k».proof.Defs
public import Idealize.ShloMosaic.Lib.Pointwise

/-!
  A running sum, written as a sum over windows of a padded array, read at an index.
-/

@[expose] public section

set_option maxRecDepth 16384

noncomputable section

namespace Cert.Proof.HgrnWindow

open Idealize.ShloMosaic
open Finset

theorem foldl_sum {α : Type} (l : List α) (f : α → EReal) (v : EReal) : l.foldl (fun r a => r + f a) v = v + (l.map f).sum := by
  induction l generalizing v with
  | nil => simp
  | cons a l ih => rw [List.foldl_cons, ih, List.map_cons, List.sum_cons, add_assoc]

/-- A sum over windows of an operand padded by zeros: the sum of the operand's entries the window meets. -/
theorem window_sum {s t : Shape} (window strides lo hi : Fin s.rank → ℕ) (h : s.ReduceWindows window strides lo hi t) (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  rw [← Equiv.sum_comp (⟨s.rank, window⟩ : Shape).rowMajor.symm]
  unfold Ideal.hostReduceWindowAdd Host.reduceWindow
  rw [foldl_sum, ← Fin.sum_univ_def]
  show (0 : EReal) + _ = _
  rw [zero_add]
  exact sum_congr rfl fun _ _ => dite_congr rfl (fun _ => rfl) fun _ => rfl

abbrev A2 : Shape := ⟨2, ![2, 512]⟩
abbrev A4 : Shape := ⟨4, ![32, 4, 64, 128]⟩

/-- The first row of a running sum over two rows is the first row. -/
theorem window_two (h : A2.ReduceWindows ![2, 1] ![1, 1] ![1, 0] ![0, 0] A2) (x : A2.Idx → EReal) (j : Fin 512) :
    Ideal.hostReduceWindowAdd ![2, 1] ![1, 1] ![1, 0] ![0, 0] h x 0 (ix2 0 j) = x (ix2 0 j) := by
  rw [window_sum]
  have hb : Function.Bijective (fun k : Fin 2 => (ix2 k 0 : (⟨2, ![2, 1]⟩ : Shape).Idx)) := by
    constructor
    · intro a b hab
      exact congrFun hab 0
    · intro y
      refine ⟨y 0, funext fun a => ?_⟩
      match a with
      | ⟨0, _⟩ => rfl
      | ⟨1, _⟩ => exact Fin.ext (by have := (y 1).isLt; change (y 1).val < 1 at this; show 0 = (y 1).val; omega)
  rw [← hb.sum_comp, Fin.sum_univ_two]
  rw [dif_neg, dif_pos, zero_add]
  · refine congrArg x (funext fun a => ?_)
    match a with
    | ⟨0, _⟩ => rfl
    | ⟨1, _⟩ => exact Fin.ext (by show j.val * 1 + 0 - 0 = j.val; omega)
  · intro a
    match a with
    | ⟨0, _⟩ => show 1 ≤ 0 * 1 + 1 ∧ 0 * 1 + 1 - 1 < 2; omega
    | ⟨1, _⟩ => show 0 ≤ j.val * 1 + 0 ∧ j.val * 1 + 0 - 0 < 512; have := j.isLt; omega
  · intro hh
    have : 1 ≤ 0 * 1 + 0 := (hh 0).1
    omega

/-- The running sum along the steps of a chunk of 64. -/
theorem window_chunk (h : A4.ReduceWindows ![1, 1, 64, 1] ![1, 1, 1, 1] ![0, 0, 63, 0] ![0, 0, 0, 0] A4) (x : A4.Idx → EReal)
    (b : Fin 32) (e : Fin 4) (t : Fin 64) (d : Fin 128) (X : ℕ → EReal) (hx : ∀ r : Fin 64, x (ix4 b e r d) = X r.val) :
    Ideal.hostReduceWindowAdd ![1, 1, 64, 1] ![1, 1, 1, 1] ![0, 0, 63, 0] ![0, 0, 0, 0] h x 0 (ix4 b e t d) = ∑ r ∈ range (t.val + 1), X r := by
  rw [window_sum]
  have hb : Function.Bijective (fun k : Fin 64 => (ix4 0 0 k 0 : (⟨4, ![1, 1, 64, 1]⟩ : Shape).Idx)) := by
    constructor
    · intro a b hab
      exact congrFun hab 2
    · intro y
      refine ⟨y 2, funext fun a => ?_⟩
      match a with
      | ⟨0, _⟩ => exact Fin.ext (by have := (y 0).isLt; change (y 0).val < 1 at this; show 0 = (y 0).val; omega)
      | ⟨1, _⟩ => exact Fin.ext (by have := (y 1).isLt; change (y 1).val < 1 at this; show 0 = (y 1).val; omega)
      | ⟨2, _⟩ => rfl
      | ⟨3, _⟩ => exact Fin.ext (by have := (y 3).isLt; change (y 3).val < 1 at this; show 0 = (y 3).val; omega)
  rw [← hb.sum_comp]
  have ht := t.isLt
  have hk : ∀ k : Fin 64, (if hin : ∀ a, (![0, 0, 63, 0] : Fin 4 → ℕ) a ≤ ((ix4 b e t d : A4.Idx) (a.cast h.1.symm)).val * (![1, 1, 1, 1] : Fin 4 → ℕ) a + ((ix4 0 0 k 0 : (⟨4, ![1, 1, 64, 1]⟩ : Shape).Idx) a).val
        ∧ ((ix4 b e t d : A4.Idx) (a.cast h.1.symm)).val * (![1, 1, 1, 1] : Fin 4 → ℕ) a + ((ix4 0 0 k 0 : (⟨4, ![1, 1, 64, 1]⟩ : Shape).Idx) a).val - (![0, 0, 63, 0] : Fin 4 → ℕ) a < A4.size a
      then x (fun a => ⟨((ix4 b e t d : A4.Idx) (a.cast h.1.symm)).val * (![1, 1, 1, 1] : Fin 4 → ℕ) a + ((ix4 0 0 k 0 : (⟨4, ![1, 1, 64, 1]⟩ : Shape).Idx) a).val - (![0, 0, 63, 0] : Fin 4 → ℕ) a, (hin a).2⟩)
      else 0) = if 63 ≤ t.val + k.val then X (t.val + k.val - 63) else 0 := by
    intro k
    have hk' := k.isLt
    by_cases hle : 63 ≤ t.val + k.val
    · rw [if_pos hle, dif_pos]
      · rw [← hx ⟨t.val + k.val - 63, by omega⟩]
        refine congrArg x (funext fun a => ?_)
        match a with
        | ⟨0, _⟩ => exact Fin.ext (by show b.val * 1 + 0 - 0 = b.val; omega)
        | ⟨1, _⟩ => exact Fin.ext (by show e.val * 1 + 0 - 0 = e.val; omega)
        | ⟨2, _⟩ => exact Fin.ext (by show t.val * 1 + k.val - 63 = t.val + k.val - 63; omega)
        | ⟨3, _⟩ => exact Fin.ext (by show d.val * 1 + 0 - 0 = d.val; omega)
      · intro a
        match a with
        | ⟨0, _⟩ => show 0 ≤ b.val * 1 + 0 ∧ b.val * 1 + 0 - 0 < 32; have := b.isLt; omega
        | ⟨1, _⟩ => show 0 ≤ e.val * 1 + 0 ∧ e.val * 1 + 0 - 0 < 4; have := e.isLt; omega
        | ⟨2, _⟩ => show 63 ≤ t.val * 1 + k.val ∧ t.val * 1 + k.val - 63 < 64; omega
        | ⟨3, _⟩ => show 0 ≤ d.val * 1 + 0 ∧ d.val * 1 + 0 - 0 < 128; have := d.isLt; omega
    · rw [if_neg hle, dif_neg]
      intro hh
      have h2 : 63 ≤ t.val * 1 + k.val := (hh 2).1
      omega
  refine (Finset.sum_congr rfl fun k _ => hk k).trans ?_
  rw [Fin.sum_univ_eq_sum_range (fun k => if 63 ≤ t.val + k then X (t.val + k - 63) else 0) 64, ← sum_filter]
  refine sum_bij' (fun k _ => t.val + k - 63) (fun r _ => r + 63 - t.val) ?_ ?_ ?_ ?_ ?_
  · intro k hk
    simp only [mem_filter, mem_range] at hk ⊢
    omega
  · intro k hk
    simp only [mem_filter, mem_range] at hk ⊢
    omega
  · intro k hk
    simp only [mem_filter, mem_range] at hk ⊢
    omega
  · intro k hk
    simp only [mem_filter, mem_range] at hk ⊢
    omega
  · intro k hk
    rfl

end Cert.Proof.HgrnWindow

end

end
-- ==== Proof.HgrnBlocks.lean ====
module

public import proofs.«01_k».proof.Proof.HgrnBand
public import proofs.«01_k».proof.Proof.HgrnWindow
public import Idealize.ShloMosaic.Lib.Pipeline.ValueKit
public import Idealize.ShloMosaic.Lib.Claim

/-!
  The blocks the recurrence's kernel reads, entry by entry.
-/

@[expose] public section

set_option maxRecDepth 16384

noncomputable section

namespace Cert.Proof.HgrnBlocks

open Cert.KernelIdeal Cert.KernelIdeal.Gen Cert.Proof.HgrnFrameI
open Idealize.ShloMosaic Idealize.ShloMosaic.TcCoe Idealize.SL.Sem

variable (m : (ℓ : Loc nD τ sig) → Buf (Elt Ideal) ℓ)

/-- The index maps of the windows at every point of the grid. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] ∧ win0_4.index t = ![t.val % 4, t.val / 4]
    ∧ win0_5.index t = ![0, t.val % 4] ∧ win0_6.index t = ![0, t.val % 4] ∧ win0_7.index t = ![t.val / 4, 0, t.val % 4] :=
  (by decide +kernel : ∀ t : Fin grid0.N, _)

/-- The row of the arrays a step of a batch lies in. -/
def arow (b n : ℕ) : Fin 65536 := ⟨(b * 2048 + n) % 65536, Nat.mod_lt _ (by decide)⟩

/-- The lane of the arrays a lane of a head lies in. -/
def alane (h d : ℕ) : Fin 512 := ⟨(h * 128 + d) % 512, Nat.mod_lt _ (by decide)⟩

/-- The host lines before the launch, one after another. -/
theorem V_split (c : Dev nD) (b : Ref sig .tc) :
    V m c b = StableHlo.after hostOps0_2 (StableHlo.after hostOps0_1 (StableHlo.after hostOps0 (fun b => m (c, b)))) b := by
  unfold V
  simp only [List.flatten_cons, List.flatten_nil, List.append_nil, StableHlo.after_append]

/-- The softmax over the two rows of the logits. -/
def smArr (a : FVec Ideal S2x512 .f32) : FVec Ideal S2x512 .f32 :=
  Host.divf
    (Host.exp (subf a (broadcastInDim S2x512 ![0, 1] bcast_S1x512_S2x512_0_1 (broadcastInDim S1x512 ![1] bcast_S512_S1x512_1
      (maximumf (broadcastInDim S512 ![] bcast_S_S512 (constant S_ FTy.f32 0xFF800000#32))
        (Host.reduce FloatOps.maximumf a (constant S_ FTy.f32 0xFF800000#32) reducesTo_S2x512_S512_d0 h_S_))))))
    (broadcastInDim S2x512 ![0, 1] bcast_S1x512_S2x512_0_1 (broadcastInDim S1x512 ![1] bcast_S512_S1x512_1
      (Host.reduceAdd
        (Host.exp (subf a (broadcastInDim S2x512 ![0, 1] bcast_S1x512_S2x512_0_1 (broadcastInDim S1x512 ![1] bcast_S512_S1x512_1
          (maximumf (broadcastInDim S512 ![] bcast_S_S512 (constant S_ FTy.f32 0xFF800000#32))
            (Host.reduce FloatOps.maximumf a (constant S_ FTy.f32 0xFF800000#32) reducesTo_S2x512_S512_d0 h_S_))))))
        (constant S_ FTy.f32 0x00000000#32) reducesTo_S2x512_S512_d0 h_S_)))

/-- Its running sum, whose first row is the lower bound of the forget gate. -/
def lbArr (a : FVec Ideal S2x512 .f32) : FVec Ideal S2x512 .f32 :=
  Host.reduceWindowAdd ![2, 1] ![1, 1] ![1, 0] ![0, 0] (smArr a) (broadcastInDim S_ ![] bcast_S_S_ (constant S_ FTy.f32 0x00000000#32))
    reduceWindows_S2x512_S2x512_w2s1p1_0_w1s1p0_0 h_S_

/-- The first row of the running sum is the first row of the softmax. -/
theorem lb_at (a : FVec Ideal S2x512 .f32) (j : Fin 512) : lbArr a (ix2 0 j) = smArr a (ix2 0 j) := by
  have h : (broadcastInDim S_ ![] bcast_S_S_ (constant (F := Ideal) S_ FTy.f32 0x00000000#32)) = 0 := by
    funext x
    pointwise
    rfl
  unfold lbArr
  rw [h]
  exact Cert.Proof.HgrnWindow.window_two reduceWindows_S2x512_S2x512_w2s1p1_0_w1s1p0_0 (smArr a) j

/-- With real logits the lower bound is a real number between zero and one. -/
theorem lb_real (a : FVec Ideal S2x512 .f32) (j : Fin 512) (a0 a1 : ℝ) (h0 : a (ix2 0 j) = a0) (h1 : a (ix2 1 j) = a1) :
    ∃ l : ℝ, 0 < l ∧ l ≤ 1 ∧ lbArr a (ix2 0 j) = l := by
  rw [lb_at]
  have hM : ∃ M : ℝ, max (Ideal.ofBits FTy.f32 4286578688#32) (Finset.fold max (Ideal.ofBits FTy.f32 4286578688#32) (fun x => a (ix2 x j)) Finset.univ) = M := by
    refine ⟨max a0 a1, ?_⟩
    rw [show (Finset.univ : Finset (Fin 2)) = {0, 1} from rfl]
    rw [Finset.fold_insert (by decide), Finset.fold_singleton, h0, h1, show Ideal.ofBits FTy.f32 4286578688#32 = ⊥ from by simp [Ideal.ofBits, Ideal.ieee]]
    simp only [bot_le, sup_of_le_right, sup_of_le_left]
    exact (EReal.coe_strictMono.monotone.map_max).symm
  obtain ⟨M, hM⟩ := hM
  refine ⟨Real.exp (a0 - M) / (Real.exp (a0 - M) + Real.exp (a1 - M)), by positivity, ?_, ?_⟩
  · rw [div_le_one (by positivity)]
    linarith [Real.exp_pos (a1 - M)]
  · pointwise [smArr]
    simp only [hM, Fin.sum_univ_two, h0, h1, ← EReal.coe_sub, Ideal.exp_coe, ← EReal.coe_add]
    have hp : Real.exp (a0 - M) + Real.exp (a1 - M) ≠ 0 := by positivity
    rw [Ideal.div_coe hp, ← EReal.coe_mul, mul_one_div]

theorem blk0 (c : Dev nD) (t : Fin cfg0.N) (r : Fin 2048) (d : Fin 128) :
    iblk m c 0 t (ix3 0 r d) = m ((c : Thread nD τ).loc main_arg0) (ix2 (arow (t.val / 4) r.val) (alane (t.val % 4) d.val)) := by
  have ht : t.val < 128 := t.isLt
  blk_simp [iblk, idx t]
  rw [V_split]
  entry_read
  pointwise
  blk_ext [iblk, V, idx t]
  all_goals
    simp only [arow, alane]
    omega

theorem blk1 (c : Dev nD) (t : Fin cfg0.N) (r : Fin 2048) (d : Fin 128) :
    iblk m c 1 t (ix3 0 r d) = m ((c : Thread nD τ).loc main_arg1) (ix2 (arow (t.val / 4) r.val) (alane (t.val % 4) d.val)) := by
  have ht : t.val < 128 := t.isLt
  blk_simp [iblk, idx t]
  rw [V_split]
  entry_read
  pointwise
  blk_ext [iblk, V, idx t]
  all_goals
    simp only [arow, alane]
    omega

theorem blk2 (c : Dev nD) (t : Fin cfg0.N) (r : Fin 2048) (d : Fin 128) :
    iblk m c 2 t (ix3 0 r d) = m ((c : Thread nD τ).loc main_arg2) (ix2 (arow (t.val / 4) r.val) (alane (t.val % 4) d.val)) := by
  have ht : t.val < 128 := t.isLt
  blk_simp [iblk, idx t]
  rw [V_split]
  entry_read
  pointwise
  blk_ext [iblk, V, idx t]
  all_goals
    simp only [arow, alane]
    omega

theorem blk3 (c : Dev nD) (t : Fin cfg0.N) (r : Fin 2048) (d : Fin 128) :
    iblk m c 3 t (ix3 0 r d) = m ((c : Thread nD τ).loc main_arg3) (ix2 (arow (t.val / 4) r.val) (alane (t.val % 4) d.val)) := by
  have ht : t.val < 128 := t.isLt
  blk_simp [iblk, idx t]
  rw [V_split]
  entry_read
  pointwise
  blk_ext [iblk, V, idx t]
  all_goals
    simp only [arow, alane]
    omega

theorem blk4 (c : Dev nD) (t : Fin cfg0.N) (e : Fin 128) (r : Fin 2048) :
    iblk m c 4 t (ix2 e r) = m ((c : Thread nD τ).loc main_arg2) (ix2 (arow (t.val / 4) r.val) (alane (t.val % 4) e.val)) := by
  have ht : t.val < 128 := t.isLt
  blk_simp [iblk, idx t]
  rw [V_split]
  entry_read
  pointwise
  blk_ext [iblk, V, idx t]
  all_goals
    simp only [arow, alane]
    omega

theorem blk5 (c : Dev nD) (t : Fin cfg0.N) (d : Fin 128) :
    iblk m c 5 t (ix2 0 d) = lbArr (m ((c : Thread nD τ).loc main_arg4)) (ix2 0 (alane (t.val % 4) d.val)) := by
  have ht : t.val < 128 := t.isLt
  blk_simp [iblk, idx t]
  rw [V_split]
  entry_read
  pointwise
  refine congrArg (lbArr (m ((c : Thread nD τ).loc main_arg4))) ?_
  blk_ext [iblk, V, idx t]
  all_goals
    simp only [alane]
    omega

theorem blk6 (c : Dev nD) (t : Fin cfg0.N) (d : Fin 128) :
    iblk m c 6 t (ix2 0 d) = m ((c : Thread nD τ).loc main_arg5) (ix2 0 (alane (t.val % 4) d.val)) := by
  have ht : t.val < 128 := t.isLt
  blk_simp [iblk, idx t]
  rw [V_split]
  entry_read
  pointwise
  blk_ext [iblk, V, idx t]
  all_goals
    simp only [arow, alane]
    omega

end Cert.Proof.HgrnBlocks

end

end
-- ==== Proof.HgrnFinal.lean ====
module

public import proofs.«01_k».proof.Proof.HgrnKernel
public import proofs.«01_k».proof.Proof.HgrnBlocks

/-!
  The recurrence's result as a function of its arguments, and that the kernel's run ends with it.
-/

@[expose] public section

set_option maxRecDepth 16384

noncomputable section

namespace Cert.Proof.HgrnFinal

open Cert.KernelIdeal Cert.KernelIdeal.Gen Cert.Proof.HgrnFrameI Cert.Proof.HgrnBlocks Cert.Proof.HgrnSpec Cert.Proof.HgrnMath Cert.Proof.HgrnBand
open Idealize.ShloMosaic Idealize.ShloMosaic.TcCoe Idealize.SL.Sem

/-- The real numbers a head of a sequence reads in an array. -/
def realAt (a : FVec Ideal S65536x512 .f32) (b h n d : ℕ) : ℝ := (a (ix2 (arow b n) (alane h d))).toReal

/-- The extended reals a head of a sequence reads in an array. -/
def at' (a : FVec Ideal S65536x512 .f32) (b h n d : ℕ) : EReal := a (ix2 (arow b n) (alane h d))

/-- The lower bound of the forget gate of a head. -/
def low (a4 : FVec Ideal S2x512 .f32) (h d : ℕ) : ℝ := (lbArr a4 (ix2 0 (alane h d))).toReal

/-- The outputs of the recurrence of a head of a sequence, before the norm. -/
def outs (a0 a1 a2 : FVec Ideal S65536x512 .f32) (a4 : FVec Ideal S2x512 .f32) (b h n e : ℕ) : ℝ :=
  O (Lg (low a4 h) (at' a1 b h)) (Qg (realAt a0 b h)) (Kg (low a4 h) (at' a1 b h)) (realAt a2 b h) n e

/-- The result. -/
def result (a0 a1 a2 a3 : FVec Ideal S65536x512 .f32) (a4 : FVec Ideal S2x512 .f32) (a5 : FVec Ideal S1x512 .f32) : FVec Ideal S32x2048x512 .bf16 :=
  fun y => normed (fun x => ((outs a0 a1 a2 a4 (y 0).val ((y 2).val / 128) (y 1).val x.val : ℝ) : EReal))
      (a5 (ix2 0 (y 2))) ⟨(y 2).val % 128, Nat.mod_lt _ (by decide)⟩
    * gate (a3 (ix2 (arow (y 0).val (y 1).val) (y 2)))

/-- The result at a lane of a head. -/
theorem result_at (a0 a1 a2 a3 : FVec Ideal S65536x512 .f32) (a4 : FVec Ideal S2x512 .f32) (a5 : FVec Ideal S1x512 .f32)
    (b : Fin 32) (n : Fin 2048) (h : ℕ) (j : Fin 128) (hh : h < 4) :
    result a0 a1 a2 a3 a4 a5 (ix3 b n (alane h j.val))
      = normed (fun x => ((outs a0 a1 a2 a4 b.val h n.val x.val : ℝ) : EReal)) (a5 (ix2 0 (alane h j.val))) j
        * gate (a3 (ix2 (arow b.val n.val) (alane h j.val))) := by
  have e1 : (alane h j.val).val / 128 = h := by
    simp only [alane]
    omega
  have e2 : (⟨(alane h j.val).val % 128, Nat.mod_lt _ (by decide)⟩ : Fin 128) = j := by
    refine Fin.ext ?_
    simp only [alane]
    omega
  show normed (fun x => ((outs a0 a1 a2 a4 b.val ((alane h j.val).val / 128) n.val x.val : ℝ) : EReal)) (a5 (ix2 0 (alane h j.val)))
    ⟨(alane h j.val).val % 128, Nat.mod_lt _ (by decide)⟩ * _ = _
  rw [e1, e2]
  rfl

/-- The inputs the recurrence needs to be real numbers. -/
structure Finite (a0 a2 : FVec Ideal S65536x512 .f32) (a4 : FVec Ideal S2x512 .f32) : Prop where
  q : ∀ i, a0 i = (((a0 i).toReal : ℝ) : EReal)
  v : ∀ i, a2 i = (((a2 i).toReal : ℝ) : EReal)
  l : ∀ i, a4 i = (((a4 i).toReal : ℝ) : EReal)

variable {a0 a2 : FVec Ideal S65536x512 .f32} {a4 : FVec Ideal S2x512 .f32}

/-- The lower bound is a real number between zero and one. -/
theorem Finite.low (H : Finite a0 a2 a4) (h d : ℕ) :
    0 < low a4 h d ∧ low a4 h d ≤ 1 ∧ lbArr a4 (ix2 0 (alane h d)) = ((low a4 h d : ℝ) : EReal) := by
  obtain ⟨l, hp, hl, e⟩ := lb_real a4 (alane h d) _ _ (H.l (ix2 0 (alane h d))) (H.l (ix2 1 (alane h d)))
  have e' : HgrnFinal.low a4 h d = l := by
    unfold HgrnFinal.low
    rw [e, EReal.toReal_coe]
  rw [e']
  exact ⟨hp, hl, e⟩

variable (m : (ℓ : Loc nD τ sig) → Buf (Elt Ideal) ℓ)

/-- A row of a block of the result. -/
theorem point7 (c : Dev nD) (H : Finite (m ((c : Thread nD τ).loc main_arg0)) (m ((c : Thread nD τ).loc main_arg2)) (m ((c : Thread nD τ).loc main_arg4)))
    (t : Fin cfg0.N) (r : Fin 2048) (j : Fin 128) :
    outB (iblk m c 0 t) (iblk m c 1 t) (iblk m c 2 t) (iblk m c 3 t) (iblk m c 4 t) (iblk m c 5 t) (iblk m c 6 t) (ix3 0 r j)
      = normed (fun x => ((outs (m ((c : Thread nD τ).loc main_arg0)) (m ((c : Thread nD τ).loc main_arg1)) (m ((c : Thread nD τ).loc main_arg2))
            (m ((c : Thread nD τ).loc main_arg4)) (t.val / 4) (t.val % 4) r.val x.val : ℝ) : EReal))
          (m ((c : Thread nD τ).loc main_arg5) (ix2 0 (alane (t.val % 4) j.val))) j
        * gate (m ((c : Thread nD τ).loc main_arg3) (ix2 (arow (t.val / 4) r.val) (alane (t.val % 4) j.val))) := by
  refine (HgrnKernel.out_at (q0 := realAt (m ((c : Thread nD τ).loc main_arg0)) (t.val / 4) (t.val % 4))
    (F := at' (m ((c : Thread nD τ).loc main_arg1)) (t.val / 4) (t.val % 4))
    (V := realAt (m ((c : Thread nD τ).loc main_arg2)) (t.val / 4) (t.val % 4))
    (lam := low (m ((c : Thread nD τ).loc main_arg4)) (t.val % 4))
    (fun r d => (blk0 m c t r d).trans (H.q _)) (fun r d => blk1 m c t r d) (fun r d => (blk2 m c t r d).trans (H.v _))
    (fun e r => (blk4 m c t e r).trans (H.v _)) (fun d => (blk5 m c t d).trans (H.low _ _).2.2)
    (fun d => (H.low _ d).1) (fun d => (H.low _ d).2.1) r j).trans ?_
  rw [blk3, blk6]
  rfl

/-- The result of the kernel's run. -/
theorem final7 (c : Dev nD) (H : Finite (m ((c : Thread nD τ).loc main_arg0)) (m ((c : Thread nD τ).loc main_arg2)) (m ((c : Thread nD τ).loc main_arg4))) :
    (dats m 0 c).arrAt 7 (cfgs 0).N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  idx_vars y
  have h4 : t.val / 4 < 32 := by
    have : t.val < 128 := t.isLt
    omega
  have h0 : y0 = 0 := Fin.ext (by omega)
  subst h0
  refine (point7 m c H t y1 y2).trans (Eq.symm ?_)
  have he : (((View.whole main_v23).slice (win0_7.rect t)).emb (ix3 0 y1 y2) : S32x2048x512.Idx) = ix3 (⟨t.val / 4, h4⟩ : Fin 32) y1 (alane (t.val % 4) y2.val) := by
    blk_ext [idx t]
    all_goals
      simp only [alane]
      omega
  refine (congrArg (result _ _ _ _ _ _) he).trans ?_
  exact result_at _ _ _ _ _ _ _ _ _ _ (by omega)

end Cert.Proof.HgrnFinal

end

end
-- ==== Proof.HgrnPre.lean ====
module

public import proofs.«01_k».proof.Pre_finite_inputs
public import proofs.«01_k».proof.Proof.HgrnFinal

/-!
  The precondition, read: the queries' inputs, the values and the logits are real numbers.
-/

@[expose] public section

set_option maxRecDepth 16384

noncomputable section

namespace Cert.Proof.HgrnPre

open Cert.Pre_finite_inputs
open Idealize.ShloMosaic Idealize.ShloMosaic.TcCoe

/-- The precondition's own side conditions. -/
instance facts : Cert.Pre_finite_inputs.Facts where
  bcast_S_S2x512 := by decide
  bcast_S_S65536x512 := by decide
  slices_S2x512_S1x512_0_0 := by decide
  shapeCasts_S1x512_S512 := by decide
  bcast_S512_S1x512_1 := by decide
  bcast_S1x512_S65536x512_0_1 := by decide
  slices_S2x512_S1x512_1_0 := by decide

/-- A number below infinity in absolute value is real. -/
theorem real_of_abs (x : EReal) (h : BitVec.ofBool (decide ((FloatOps.absf (F := Ideal) (φ := .f32) x : EReal) < Ideal.ofBits FTy.f32 2139095040#32)) = 1#1) :
    x = ((x.toReal : ℝ) : EReal) := by
  have hi : Ideal.ofBits FTy.f32 2139095040#32 = ⊤ := by simp [Ideal.ofBits, Ideal.ieee]
  rw [hi] at h
  refine (EReal.coe_toReal ?_ ?_).symm
  · rintro rfl
    revert h
    rw [show (FloatOps.absf (F := Ideal) (φ := .f32) (⊤ : EReal) : EReal) = ⊤ from by rfl]
    simp
  · rintro rfl
    revert h
    rw [show (FloatOps.absf (F := Ideal) (φ := .f32) (⊥ : EReal) : EReal) = ⊤ from by rfl]
    simp

theorem and_one : ∀ p q : BitVec 1, IntOp.andi p q = 1#1 → p = 1#1 ∧ q = 1#1 := by decide

/-- What the precondition says at a place. -/
theorem fn_at (a0 a1 a2 a3 : FVec Ideal S65536x512 .f32) (a4 : FVec Ideal S2x512 .f32) (a5 : FVec Ideal S1x512 .f32) (h : fn a0 a1 a2 a3 a4 a5 = fun _ => 1#1)
    (i : Fin 65536) (j : Fin 512) : (a0 (ix2 i j) = (((a0 (ix2 i j)).toReal : ℝ) : EReal) ∧ a2 (ix2 i j) = (((a2 (ix2 i j)).toReal : ℝ) : EReal))
      ∧ a4 (ix2 0 j) = (((a4 (ix2 0 j)).toReal : ℝ) : EReal) ∧ a4 (ix2 1 j) = (((a4 (ix2 1 j)).toReal : ℝ) : EReal) := by
  have e : fn a0 a1 a2 a3 a4 a5 (ix2 i j) = IntOp.andi (IntOp.andi (IntOp.andi
      (BitVec.ofBool (decide ((FloatOps.absf (F := Ideal) (φ := .f32) (a0 (ix2 i j)) : EReal) < Ideal.ofBits FTy.f32 2139095040#32)))
      (BitVec.ofBool (decide ((FloatOps.absf (F := Ideal) (φ := .f32) (a2 (ix2 i j)) : EReal) < Ideal.ofBits FTy.f32 2139095040#32))))
      (BitVec.ofBool (decide ((FloatOps.absf (F := Ideal) (φ := .f32) (a4 (ix2 0 j)) : EReal) < Ideal.ofBits FTy.f32 2139095040#32))))
      (BitVec.ofBool (decide ((FloatOps.absf (F := Ideal) (φ := .f32) (a4 (ix2 1 j)) : EReal) < Ideal.ofBits FTy.f32 2139095040#32))) := by
    pointwise [fn]
  rw [h] at e
  obtain ⟨h1, h2⟩ := and_one _ _ e.symm
  obtain ⟨h3, h4⟩ := and_one _ _ h1
  obtain ⟨h5, h6⟩ := and_one _ _ h3
  exact ⟨⟨real_of_abs _ h5, real_of_abs _ h6⟩, real_of_abs _ h4, real_of_abs _ h2⟩

/-- The precondition makes the inputs the recurrence needs real. -/
theorem finite_of (a0 a1 a2 a3 : FVec Ideal S65536x512 .f32) (a4 : FVec Ideal S2x512 .f32) (a5 : FVec Ideal S1x512 .f32) (h : fn a0 a1 a2 a3 a4 a5 = fun _ => 1#1) :
    HgrnFinal.Finite a0 a2 a4 where
  q i := by
    idx_vars i
    exact (fn_at a0 a1 a2 a3 a4 a5 h _ _).1.1
  v i := by
    idx_vars i
    exact (fn_at a0 a1 a2 a3 a4 a5 h _ _).1.2
  l i := by
    obtain ⟨r, j, rfl⟩ : ∃ (r : Fin 2) (j : Fin 512), i = ix2 r j := by
      idx_vars i
      exact ⟨_, _, rfl⟩
    match r with
    | ⟨0, _⟩ => exact (fn_at a0 a1 a2 a3 a4 a5 h 0 j).2.1
    | ⟨1, _⟩ => exact (fn_at a0 a1 a2 a3 a4 a5 h 0 j).2.2

end Cert.Proof.HgrnPre

end

end
-- ==== Proof.HgrnRefEntry.lean ====
module

public import proofs.«01_k».proof.Proof.RefFrames
public import proofs.«01_k».proof.Proof.HgrnBlocks
public import proofs.«01_k».proof.Proof.HgrnSpec
public import Idealize.ShloMosaic.Lib.Pipeline.ValueKit

/-!
  The reference's recurrence: what its loop is entered with, and what is made of the loop's result.
-/

@[expose] public section

set_option maxRecDepth 16384

noncomputable section

namespace Cert.Proof.HgrnRefEntry

open Cert.ReferenceIdeal Cert.ReferenceIdeal.Gen Cert.ReferenceIdeal.Value Cert.Proof.HgrnBlocks Cert.Proof.HgrnSpec
open Idealize.ShloMosaic Idealize.ShloMosaic.TcCoe Idealize.SL.Sem Idealize.ShloMosaic.StableHlo

variable (m : (ℓ : Loc nD τ sig) → Buf (Elt Ideal) ℓ)

/-- The place in the arguments of a step of a chunk. -/
theorem place (b k : Fin 32) (h : Fin 4) (s : Fin 64) (d : Fin 128) (p q) :
    (ix2 (⟨b.val * 2048 + (k.val * 64 + s.val), p⟩ : Fin 65536) (⟨h.val * 128 + d.val, q⟩ : Fin 512))
      = ix2 (arow b.val (k.val * 64 + s.val)) (alane h.val d.val) := by
  congr 1
  all_goals
    refine Fin.ext ?_
    simp only [arow, alane]
    omega

/-- The same with the sum bracketed the other way. -/
theorem place' (b k : Fin 32) (h : Fin 4) (s : Fin 64) (d : Fin 128) (p q) :
    (ix2 (⟨b.val * 2048 + k.val * 64 + s.val, p⟩ : Fin 65536) (⟨h.val * 128 + d.val, q⟩ : Fin 512))
      = ix2 (arow b.val (k.val * 64 + s.val)) (alane h.val d.val) := by
  congr 1
  all_goals
    refine Fin.ext ?_
    simp only [arow, alane]
    omega

/-- The lane in the arguments of a lane of a head. -/
theorem lane (h : Fin 4) (d : Fin 128) (q) : (⟨h.val * 128 + d.val, q⟩ : Fin 512) = alane h.val d.val := by
  refine Fin.ext ?_
  simp only [alane]
  omega

/-- The mask of the steps up to a step. -/
theorem causal : ∀ t s : Fin 64, Scalar.select (IntOp.cmpi CmpIPredicate.sge (IntOp.addi (BitVec.ofNat 32 t.val) 0#32) (BitVec.ofNat 32 s.val)) 1#1 0#1
    = if s.val ≤ t.val then 1#1 else 0#1 := by decide +kernel

/-- The running sum of the softmax, as the first lines leave it. -/
theorem pre0 (c : Dev nD) : (after hostOps0_1 (after hostOps0 (launchContents m c)) (Proc.devRef .tc main_v11) : FVec Ideal S2x512 .f32)
    = lbArr (m ((c : Thread nD τ).loc main_arg4)) := by
  entry_read
  rfl

/-- The queries the loop is entered with. -/
theorem e0 (W : Valuation τ sig (Elt Ideal)) (k : Fin 32) (b : Fin 32) (h : Fin 4) (s : Fin 64) (d : Fin 128) :
    (afterL [hostOps0_2, hostOps0_3, hostOps0_4, hostOps0_5, hostOps0_6] W (Proc.devRef .tc main_v48_0) (ix5 k b h s d) : EReal)
      = (fun x : EReal => x * Ideal.div 1 (1 + Ideal.exp (0 - x))) (W (Proc.devRef .tc main_arg0) (ix2 (arow b.val (k.val * 64 + s.val)) (alane h.val d.val))) := by
  simp only [afterL_cons, afterL_nil]
  entry_read
  simp -implicitDefEqProofs only [TRef.toBuf, TRef.ofBuf, cast_cast, cast_eq, id_eq]
  pointwise
  rw [place]
  simp only [zero_sub]

/-- The logarithms of the forget gate. -/
theorem e1 (W : Valuation τ sig (Elt Ideal)) (k : Fin 32) (b : Fin 32) (h : Fin 4) (s : Fin 64) (d : Fin 128) :
    (afterL [hostOps0_2, hostOps0_3, hostOps0_4, hostOps0_5, hostOps0_6] W (Proc.devRef .tc main_v48_1) (ix5 k b h s d) : EReal)
      = (fun l x : EReal => Ideal.log (l + (1 - l) * Ideal.div 1 (1 + Ideal.exp (0 - x)))) (W (Proc.devRef .tc main_v11) (ix2 0 (alane h.val d.val))) (W (Proc.devRef .tc main_arg1) (ix2 (arow b.val (k.val * 64 + s.val)) (alane h.val d.val))) := by
  simp only [afterL_cons, afterL_nil]
  entry_read
  try simp -implicitDefEqProofs only [TRef.toBuf, TRef.ofBuf, cast_cast, cast_eq, id_eq]
  pointwise
  simp only [place]
  simp only [lane]
  simp only [zero_sub]

/-- The keys. -/
theorem e2 (W : Valuation τ sig (Elt Ideal)) (k : Fin 32) (b : Fin 32) (h : Fin 4) (s : Fin 64) (d : Fin 128) :
    (afterL [hostOps0_2, hostOps0_3, hostOps0_4, hostOps0_5, hostOps0_6] W (Proc.devRef .tc main_v48_2) (ix5 k b h s d) : EReal)
      = (fun l x : EReal => 1 - (l + (1 - l) * Ideal.div 1 (1 + Ideal.exp (0 - x)))) (W (Proc.devRef .tc main_v11) (ix2 0 (alane h.val d.val))) (W (Proc.devRef .tc main_arg1) (ix2 (arow b.val (k.val * 64 + s.val)) (alane h.val d.val))) := by
  simp only [afterL_cons, afterL_nil]
  entry_read
  try simp -implicitDefEqProofs only [TRef.toBuf, TRef.ofBuf, cast_cast, cast_eq, id_eq]
  pointwise
  simp only [place]
  simp only [lane]
  simp only [zero_sub]

/-- The values. -/
theorem e3 (W : Valuation τ sig (Elt Ideal)) (k : Fin 32) (b : Fin 32) (h : Fin 4) (s : Fin 64) (d : Fin 128) :
    (afterL [hostOps0_2, hostOps0_3, hostOps0_4, hostOps0_5, hostOps0_6] W (Proc.devRef .tc main_v48_3) (ix5 k b h s d) : EReal)
      = (W (Proc.devRef .tc main_arg2) (ix2 (arow b.val (k.val * 64 + s.val)) (alane h.val d.val))) := by
  simp only [afterL_cons, afterL_nil]
  entry_read
  try simp -implicitDefEqProofs only [TRef.toBuf, TRef.ofBuf, cast_cast, cast_eq, id_eq]
  pointwise
  rw [place']

/-- The mask. -/
theorem e4 (W : Valuation τ sig (Elt Ideal)) (t s : Fin 64) :
    (afterL [hostOps0_2, hostOps0_3, hostOps0_4, hostOps0_5, hostOps0_6] W (Proc.devRef .tc main_v48_4) (ix2 t s) : BitVec 1) = if s.val ≤ t.val then 1#1 else 0#1 := by
  simp only [afterL_cons, afterL_nil]
  entry_read
  try simp -implicitDefEqProofs only [TRef.toBuf, TRef.ofBuf, cast_cast, cast_eq, id_eq]
  pointwise
  exact causal t s

/-- The counter. -/
theorem e5 (W : Valuation τ sig (Elt Ideal)) :
    afterL [hostOps0_2, hostOps0_3, hostOps0_4, hostOps0_5, hostOps0_6] W (Proc.devRef .tc main_v48_5) = fun _ => 0#32 := by
  simp only [afterL_cons, afterL_nil]
  entry_read
  try simp -implicitDefEqProofs only [TRef.toBuf, TRef.ofBuf, cast_cast, cast_eq, id_eq]
  rfl

/-- The state. -/
theorem e6 (W : Valuation τ sig (Elt Ideal)) (b : Fin 32) (h : Fin 4) (d e : Fin 128) :
    (afterL [hostOps0_2, hostOps0_3, hostOps0_4, hostOps0_5, hostOps0_6] W (Proc.devRef .tc main_v48_6) (ix4 b h d e) : EReal) = (0 : EReal) := by
  simp only [afterL_cons, afterL_nil]
  entry_read
  try simp -implicitDefEqProofs only [TRef.toBuf, TRef.ofBuf, cast_cast, cast_eq, id_eq]
  pointwise

/-- The output gate's input. -/
theorem e17 (W : Valuation τ sig (Elt Ideal)) (b : Fin 32) (n : Fin 2048) (l : Fin 512) :
    (afterL [hostOps0_2, hostOps0_3, hostOps0_4, hostOps0_5, hostOps0_6] W (Proc.devRef .tc main_v17) (ix3 b n l) : EReal)
      = W (Proc.devRef .tc main_arg3) (ix2 (arow b.val n.val) l) := by
  simp only [afterL_cons, afterL_nil]
  entry_read
  try simp -implicitDefEqProofs only [TRef.toBuf, TRef.ofBuf, cast_cast, cast_eq, id_eq]
  pointwise
  congr 2
  refine Fin.ext ?_
  simp only [arow]
  omega

/-- The rest of the layer after the loop: the norm over the lanes of a head, the weight and the output gate. -/
theorem post_at (W : Valuation τ sig (Elt Ideal)) (A : FVec Ideal S32x32x4x64x128 .f32) (B : FVec Ideal S1x512 .f32) (C : FVec Ideal S32x2048x512 .f32)
    (hA : W (Proc.devRef .tc main_v48_7) = A) (hB : W (Proc.devRef .tc main_arg5) = B) (hC : W (Proc.devRef .tc main_v17) = C)
    (b : Fin 32) (n : Fin 2048) (l : Fin 512) (k : Fin 32) (h : Fin 4) (s : Fin 64) (j : Fin 128) (hk : k.val = n.val / 64) (hh : h.val = l.val / 128)
    (hs : s.val = n.val % 64) (hj : j.val = l.val % 128) :
    (afterL postI W (Proc.devRef .tc main_v70) (ix3 b n l) : EReal)
      = HgrnBand.normed (fun x : Fin 128 => A (ix5 k b h s x)) (B (ix2 0 l)) j * HgrnBand.gate (C (ix3 b n l)) := by
  have hl : ∀ p, (⟨l.val / 128 * 128 + l.val % 128, p⟩ : Fin 512) = l := fun p => Fin.ext (by simp only []; omega)
  have ek : ∀ p, (⟨n.val / 64, p⟩ : Fin 32) = k := fun p => Fin.ext hk.symm
  have eh : ∀ p, (⟨l.val / 128, p⟩ : Fin 4) = h := fun p => Fin.ext hh.symm
  have es : ∀ p, (⟨n.val % 64, p⟩ : Fin 64) = s := fun p => Fin.ext hs.symm
  have ej : ∀ p, (⟨l.val % 128, p⟩ : Fin 128) = j := fun p => Fin.ext hj.symm
  simp only [postI, afterL_cons, afterL_nil]
  entry_read
  simp -implicitDefEqProofs only [TRef.toBuf, TRef.ofBuf, cast_cast, cast_eq, id_eq]
  simp only [hA, hB, hC]
  pointwise [HgrnBand.normed, HgrnBand.gate]
  simp only [hl, ek, eh, es, ej, zero_sub]

end Cert.Proof.HgrnRefEntry

end

end
-- ==== Proof.HgrnRefStep.lean ====
module

public import proofs.«01_k».proof.Proof.RefFrames
public import proofs.«01_k».proof.Proof.HgrnWindow
public import proofs.«01_k».proof.Proof.HgrnChunk
public import Idealize.ShloMosaic.Lib.Pipeline.ValueKit
public import Idealize.ShloMosaic.Lib.DynamicIndex

/-!
  One trip of the reference's loop, over the reals: the state it hands on and the outputs it writes.
-/

@[expose] public section

set_option maxRecDepth 16384

noncomputable section

namespace Cert.Proof.HgrnRefStep

open Cert.ReferenceIdeal Cert.ReferenceIdeal.Gen Cert.ReferenceIdeal.Value
open Idealize.ShloMosaic Idealize.ShloMosaic.TcCoe Idealize.SL.Sem Idealize.ShloMosaic.StableHlo

/-- The chunk of an array at the loop's counter. -/
def chunk (A : FVec Ideal S32x32x4x64x128 .f32) (ct : IVec S_ 32) : FVec Ideal S32x4x64x128 .f32 :=
  shapeCast S32x4x64x128 (Host.dynamicSlice S1x32x4x64x128 A
    (fun k => (((![ct, constantI S_ 32 0#32, constantI S_ 32 0#32, constantI S_ 32 0#32, constantI S_ 32 0#32] : Fin 5 → (⟨S_, .i32⟩ : BufTy).Contents (Elt Ideal))) k (Shape.Idx.first h_S_)).toInt)
    sliceFits_S32x32x4x64x128_S1x32x4x64x128) shapeCasts_S1x32x4x64x128_S32x4x64x128

/-- The start of the chunk, as numbers. -/
theorem start_at (ct : IVec S_ 32) (k : Fin 32) (hc : ct = fun _ => BitVec.ofNat 32 k.val) (a : Fin 5) :
    (((![ct, constantI S_ 32 0#32, constantI S_ 32 0#32, constantI S_ 32 0#32, constantI S_ 32 0#32] : Fin 5 → (⟨S_, .i32⟩ : BufTy).Contents (Elt Ideal))) a (Shape.Idx.first h_S_)).toInt
      = ((![k.val, 0, 0, 0, 0] : Fin 5 → ℕ) a : ℤ) := by
  subst hc
  fin_cases a
  · exact toInt_ofNat_of_lt (show k.val < 2 ^ 31 by omega)
  all_goals rfl

/-- A chunk, entry by entry. -/
theorem chunk_at (A : FVec Ideal S32x32x4x64x128 .f32) (ct : IVec S_ 32) (k : Fin 32) (hc : ct = fun _ => BitVec.ofNat 32 k.val)
    (b : Fin 32) (h : Fin 4) (s : Fin 64) (d : Fin 128) : chunk A ct (ix4 b h s d) = A (ix5 k b h s d) := by
  unfold chunk
  rw [Host.dynamicSlice_eq_extractStridedSlice S1x32x4x64x128 A _ ![k.val, 0, 0, 0, 0] _
    ⟨rfl, fun a => by fin_cases a <;> simp [Shape.size, S1x32x4x64x128, S32x32x4x64x128] <;> omega⟩ (start_at ct k hc)]
  pointwise

/-- The update of the chunk at the counter, entry by entry. -/
theorem upd_at (A : FVec Ideal S32x32x4x64x128 .f32) (U : FVec Ideal S32x4x64x128 .f32) (ct : IVec S_ 32) (k : Fin 32) (hc : ct = fun _ => BitVec.ofNat 32 k.val)
    (n b : Fin 32) (h : Fin 4) (s : Fin 64) (e : Fin 128) :
    Host.dynamicUpdateSlice A (broadcastInDim S1x32x4x64x128 ![1, 2, 3, 4] bcast_S32x4x64x128_S1x32x4x64x128_1_2_3_4 U)
      (fun k => (((![ct, constantI S_ 32 0#32, constantI S_ 32 0#32, constantI S_ 32 0#32, constantI S_ 32 0#32] : Fin 5 → (⟨S_, .i32⟩ : BufTy).Contents (Elt Ideal))) k (Shape.Idx.first h_S_)).toInt)
      updateFits_S32x32x4x64x128_S1x32x4x64x128 (ix5 n b h s e)
      = if n = k then U (ix4 b h s e) else A (ix5 n b h s e) := by
  refine (congrFun (Host.dynamicUpdateSlice_eq_updateSlice A _ _ _ ![k.val, 0, 0, 0, 0] (fun a => ?_) ?_) _).trans ?_
  · refine (congrArg (fun z : ℤ => (min (max z 0) _).toNat) (start_at ct k hc a)).trans ?_
    fin_cases a <;> simp [Shape.size, S1x32x4x64x128, S32x32x4x64x128] <;> omega
  · exact ⟨rfl, fun a => by fin_cases a <;> simp [Shape.size, S1x32x4x64x128, S32x32x4x64x128] <;> omega⟩
  pointwise
  by_cases hn : n = k
  · subst hn
    rw [dif_pos ⟨le_rfl, Nat.lt_succ_self _⟩, if_pos rfl]
  · rw [if_neg hn, dif_neg fun hh => hn (Fin.ext (by omega))]

section step
open Finset HgrnMath

/-- The sum of real numbers over a range, as an extended real. -/
theorem range_coe (n : ℕ) (f : ℕ → ℝ) : ∑ r ∈ range n, ((f r : ℝ) : EReal) = ((∑ r ∈ range n, f r : ℝ) : EReal) := by
  induction n with
  | zero => rfl
  | succ n ih => rw [sum_range_succ, ih, sum_range_succ, EReal.coe_add]

/-- A sum over the steps of a chunk kept up to a step is the sum up to that step. -/
theorem masked (f : ℕ → ℕ → ℝ) (v : ℕ → ℝ) (s : Fin 64) :
    ∑ x : Fin 64, (∑ d : Fin 128, if x.val ≤ s.val then f x.val d.val else 0) * v x.val = ∑ x ∈ range (s.val + 1), (∑ d ∈ range 128, f x d) * v x := by
  have e : ∀ x : Fin 64, (∑ d : Fin 128, if x.val ≤ s.val then f x.val d.val else 0) * v x.val
      = (fun x => if x ∈ range (s.val + 1) then (∑ d ∈ range 128, f x d) * v x else 0) x.val := by
    intro x
    simp only [mem_range, Nat.lt_succ_iff]
    by_cases hx : x.val ≤ s.val
    · simp only [if_pos hx]
      rw [← HgrnChunk.sum_lanes]
    · simp only [if_neg hx, sum_const_zero, zero_mul]
  rw [sum_congr rfl fun x _ => e x, HgrnChunk.sum_lanes (n := 64) (fun x => if x ∈ range (s.val + 1) then (∑ d ∈ range 128, f x d) * v x else 0), sum_ite_mem, inter_eq_right.mpr]
  intro x hx
  rw [mem_range] at hx ⊢
  omega

variable (V0 : Valuation τ sig (Elt Ideal)) (L Q K V : ℕ → ℕ → ℝ) (k b : Fin 32) (h : Fin 4)
  (hc : V0 (Proc.devRef .tc main_v48_5) = fun _ => BitVec.ofNat 32 k.val)
  (h0 : ∀ (s : Fin 64) (d : Fin 128), (V0 (Proc.devRef .tc main_v48_0) (ix5 k b h s d) : EReal) = ((Q (k.val * 64 + s.val) d.val : ℝ) : EReal))
  (h1 : ∀ (s : Fin 64) (d : Fin 128), (V0 (Proc.devRef .tc main_v48_1) (ix5 k b h s d) : EReal) = ((L (k.val * 64 + s.val) d.val : ℝ) : EReal))
  (h2 : ∀ (s : Fin 64) (d : Fin 128), (V0 (Proc.devRef .tc main_v48_2) (ix5 k b h s d) : EReal) = ((K (k.val * 64 + s.val) d.val : ℝ) : EReal))
  (h3 : ∀ (s : Fin 64) (d : Fin 128), (V0 (Proc.devRef .tc main_v48_3) (ix5 k b h s d) : EReal) = ((V (k.val * 64 + s.val) d.val : ℝ) : EReal))

include hc h0 in
theorem v71_at (s : Fin 64) (d : Fin 128) : (res_main_while0b_v71 V0 (ix4 b h s d) : EReal) = ((Q (k.val * 64 + s.val) d.val : ℝ) : EReal) :=
  (chunk_at _ _ k hc b h s d).trans (h0 s d)

include hc h2 in
theorem v73_at (s : Fin 64) (d : Fin 128) : (res_main_while0b_v73 V0 (ix4 b h s d) : EReal) = ((K (k.val * 64 + s.val) d.val : ℝ) : EReal) :=
  (chunk_at _ _ k hc b h s d).trans (h2 s d)

include hc h3 in
theorem v74_at (s : Fin 64) (d : Fin 128) : (res_main_while0b_v74 V0 (ix4 b h s d) : EReal) = ((V (k.val * 64 + s.val) d.val : ℝ) : EReal) :=
  (chunk_at _ _ k hc b h s d).trans (h3 s d)

include hc h1 in
theorem v75_at (s : Fin 64) (d : Fin 128) : (res_main_while0b_v75 V0 (ix4 b h s d) : EReal) = ((cum L (k.val * 64) s.val d.val : ℝ) : EReal) := by
  have hz : (broadcastInDim S_ ![] bcast_S_S_ (constant (F := Ideal) S_ FTy.f32 0x00000000#32)) = 0 := by
    funext x
    pointwise
    rfl
  unfold res_main_while0b_v75
  rw [hz]
  refine (HgrnWindow.window_chunk reduceWindows_S32x4x64x128_S32x4x64x128_w1s1p0_0_w1s1p0_0_w64s1p63_0_w1s1p0_0 _ b h s d (fun r => ((L (k.val * 64 + r) d.val : ℝ) : EReal))
    fun r => (chunk_at _ _ k hc b h r d).trans (h1 r d)).trans ?_
  unfold cum
  exact range_coe _ _

include hc h1 in
theorem v98_at (d : Fin 128) : (res_main_while0b_v98 V0 (ix4 b h 0 d) : EReal) = ((cum L (k.val * 64) 63 d.val : ℝ) : EReal) := by
  refine Eq.trans ?_ (v75_at V0 L k b h hc h1 63 d)
  unfold res_main_while0b_v98
  pointwise

include hc h1 h2 h3 in
/-- One trip takes the state to the next chunk. -/
theorem state_at (h6 : ∀ d e : Fin 128, (V0 (Proc.devRef .tc main_v48_6) (ix4 b h d e) : EReal) = ((St L K V (k.val * 64) e.val d.val : ℝ) : EReal))
    (d e : Fin 128) : (step_main_v48_6 V0 (ix4 b h d e) : EReal) = ((St L K V ((k.val + 1) * 64) e.val d.val : ℝ) : EReal) := by
  simp only [step_main_v48_6, id_eq]
  pointwise
  simp only [v98_at V0 L k b h hc h1, v75_at V0 L k b h hc h1, v73_at V0 K k b h hc h2, v74_at V0 V k b h hc h3, h6, Ideal.exp_coe, ← EReal.coe_sub, ← EReal.coe_mul, HgrnChunk.sum_coe, ← EReal.coe_add]
  rw [show (k.val + 1) * 64 = k.val * 64 + (63 + 1) by ring, St_chunk, ← HgrnChunk.sum_lanes]
  congr 2
  · ring
  · exact sum_congr rfl fun _ _ => by ring

include hc h0 h1 h2 h3 in
/-- One trip writes the outputs of its chunk. -/
theorem out_at (hL : ∀ n d, L n d ≤ 0)
    (h4 : ∀ t s : Fin 64, (V0 (Proc.devRef .tc main_v48_4) (ix2 t s) : BitVec 1) = if s.val ≤ t.val then 1#1 else 0#1)
    (h6 : ∀ d e : Fin 128, (V0 (Proc.devRef .tc main_v48_6) (ix4 b h d e) : EReal) = ((St L K V (k.val * 64) e.val d.val : ℝ) : EReal))
    (n : Fin 32) (s : Fin 64) (e : Fin 128) : (step_main_v48_7 V0 (ix5 n b h s e) : EReal)
      = if n = k then ((O L Q K V (k.val * 64 + s.val) e.val : ℝ) : EReal) else V0 (Proc.devRef .tc main_v48_7) (ix5 n b h s e) := by
  refine (upd_at _ _ _ k hc n b h s e).trans ?_
  congr 1
  pointwise
  simp only [v71_at V0 Q k b h hc h0, v75_at V0 L k b h hc h1, v73_at V0 K k b h hc h2, v74_at V0 V k b h hc h3, h6, h4]
  have ht : ∀ (x : Fin 64) (y : Fin 128), ((Q (k.val * 64 + s.val) y.val : ℝ) : EReal) * Scalar.select (if x.val ≤ s.val then 1#1 else 0#1)
      (Ideal.exp (min (((cum L (k.val * 64) s.val y.val : ℝ) : EReal) - ((cum L (k.val * 64) x.val y.val : ℝ) : EReal)) 0))
      (id (constant (F := Ideal) S_ FTy.f32 0#32) ix0) * ((K (k.val * 64 + x.val) y.val : ℝ) : EReal)
      = ((if x.val ≤ s.val then Q (k.val * 64 + s.val) y.val * K (k.val * 64 + x.val) y.val * Real.exp (cum L (k.val * 64) s.val y.val - cum L (k.val * 64) x.val y.val) else 0 : ℝ) : EReal) := by
    intro x y
    have hz : (id (constant (F := Ideal) S_ FTy.f32 0#32) ix0 : EReal) = 0 := by
      rw [id_eq]
      pointwise
    rw [hz]
    by_cases hx : x.val ≤ s.val
    · rw [if_pos hx, if_pos hx, ← EReal.coe_sub, min_eq_left (EReal.coe_nonpos.mpr (cum_le L hL _ _ _ _ hx)), Ideal.exp_coe]
      show ((Q (k.val * 64 + s.val) y.val : ℝ) : EReal) * (Real.exp _ : ℝ) * _ = _
      rw [← EReal.coe_mul, ← EReal.coe_mul]
      congr 1
      ring
    · rw [if_neg hx, if_neg hx]
      show ((Q (k.val * 64 + s.val) y.val : ℝ) : EReal) * (0 : EReal) * _ = _
      rw [mul_zero, zero_mul, EReal.coe_zero]
  simp only [ht, Ideal.exp_coe, ← EReal.coe_mul, HgrnChunk.sum_coe, ← EReal.coe_add]
  rw [O_chunk, add_comm, ← HgrnChunk.sum_lanes]
  congr 2
  exact masked (fun x d => Q (k.val * 64 + s.val) d * K (k.val * 64 + x) d * Real.exp (cum L (k.val * 64) s.val d - cum L (k.val * 64) x d))
    (fun x => V (k.val * 64 + x) e.val) s

end step

end Cert.Proof.HgrnRefStep

end

end
-- ==== Proof.HgrnRefLoop.lean ====
module

public import proofs.«01_k».proof.Proof.HgrnRefStep

/-!
  The reference's loop, over the reals: after so many trips the state is that after as many chunks, and the outputs of
  those chunks are written.
-/

@[expose] public section

set_option maxRecDepth 16384

noncomputable section

namespace Cert.Proof.HgrnRefLoop

open Cert.ReferenceIdeal Cert.ReferenceIdeal.Gen Cert.ReferenceIdeal.Value
open Idealize.ShloMosaic Idealize.ShloMosaic.TcCoe Idealize.SL.Sem Idealize.ShloMosaic.StableHlo
open HgrnMath

/-- What the loop's buffers hold for one head of one sequence after `k` trips. -/
structure Held (L Q K V : ℕ → ℕ → ℝ) (b : Fin 32) (h : Fin 4) (k : ℕ) (W : Valuation τ sig (Elt Ideal)) : Prop where
  ctr : W (Proc.devRef .tc main_v48_5) = fun _ => BitVec.ofNat 32 k
  q : ∀ (n : Fin 32) (s : Fin 64) (d : Fin 128), (W (Proc.devRef .tc main_v48_0) (ix5 n b h s d) : EReal) = ((Q (n.val * 64 + s.val) d.val : ℝ) : EReal)
  l : ∀ (n : Fin 32) (s : Fin 64) (d : Fin 128), (W (Proc.devRef .tc main_v48_1) (ix5 n b h s d) : EReal) = ((L (n.val * 64 + s.val) d.val : ℝ) : EReal)
  key : ∀ (n : Fin 32) (s : Fin 64) (d : Fin 128), (W (Proc.devRef .tc main_v48_2) (ix5 n b h s d) : EReal) = ((K (n.val * 64 + s.val) d.val : ℝ) : EReal)
  v : ∀ (n : Fin 32) (s : Fin 64) (d : Fin 128), (W (Proc.devRef .tc main_v48_3) (ix5 n b h s d) : EReal) = ((V (n.val * 64 + s.val) d.val : ℝ) : EReal)
  mask : ∀ t s : Fin 64, (W (Proc.devRef .tc main_v48_4) (ix2 t s) : BitVec 1) = if s.val ≤ t.val then 1#1 else 0#1
  st : ∀ d e : Fin 128, (W (Proc.devRef .tc main_v48_6) (ix4 b h d e) : EReal) = ((St L K V (k * 64) e.val d.val : ℝ) : EReal)
  out : ∀ (n : Fin 32) (s : Fin 64) (e : Fin 128), n.val < k →
    (W (Proc.devRef .tc main_v48_7) (ix5 n b h s e) : EReal) = ((O L Q K V (n.val * 64 + s.val) e.val : ℝ) : EReal)

variable {L Q K V : ℕ → ℕ → ℝ} {b : Fin 32} {h : Fin 4}

/-- One trip. -/
theorem Held.step {k : ℕ} {W : Valuation τ sig (Elt Ideal)} (hL : ∀ n d, L n d ≤ 0) (hk : k < 32) (I : Held L Q K V b h k W) :
    Held L Q K V b h (k + 1) (STEP W) where
  ctr := by
    rw [STEP_main_v48_5]
    unfold step_main_v48_5
    rw [I.ctr]
    funext x
    show BitVec.ofNat 32 k + 1#32 = BitVec.ofNat 32 (k + 1)
    rw [BitVec.ofNat_add]
  q := by rw [STEP_main_v48_0]; exact I.q
  l := by rw [STEP_main_v48_1]; exact I.l
  key := by rw [STEP_main_v48_2]; exact I.key
  v := by rw [STEP_main_v48_3]; exact I.v
  mask := by rw [STEP_main_v48_4]; exact I.mask
  st := by
    rw [STEP_main_v48_6]
    exact HgrnRefStep.state_at W L K V ⟨k, hk⟩ b h I.ctr (I.l ⟨k, hk⟩) (I.key ⟨k, hk⟩) (I.v ⟨k, hk⟩) I.st
  out := by
    intro n s e hn
    rw [STEP_main_v48_7]
    refine (HgrnRefStep.out_at W L Q K V ⟨k, hk⟩ b h I.ctr (I.q ⟨k, hk⟩) (I.l ⟨k, hk⟩) (I.key ⟨k, hk⟩) (I.v ⟨k, hk⟩) hL I.mask I.st n s e).trans ?_
    by_cases he : n = ⟨k, hk⟩
    · rw [if_pos he, he]
    · rw [if_neg he]
      exact I.out n s e (by
        have : n.val ≠ k := fun h' => he (Fin.ext h')
        omega)

/-- All trips up to the last. -/
theorem Held.iterate {W : Valuation τ sig (Elt Ideal)} (hL : ∀ n d, L n d ≤ 0) (I : Held L Q K V b h 0 W) :
    ∀ k ≤ 32, Held L Q K V b h k (STEP^[k] W)
  | 0, _ => I
  | k + 1, hk => by
    rw [Function.iterate_succ_apply']
    exact (Held.iterate hL I k (by omega)).step hL (by omega)

end Cert.Proof.HgrnRefLoop

end

end
-- ==== Proof.HgrnRefFinal.lean ====
module

public import proofs.«01_k».proof.Proof.HgrnFinal
public import proofs.«01_k».proof.Proof.HgrnRefEntry
public import proofs.«01_k».proof.Proof.HgrnRefLoop

/-!
  The recurrence's reference ends with the same function of its arguments.
-/

@[expose] public section

set_option maxRecDepth 16384

noncomputable section

namespace Cert.Proof.HgrnRefFinal

open Cert.ReferenceIdeal Cert.ReferenceIdeal.Gen Cert.ReferenceIdeal.Value
open Cert.Proof.HgrnBlocks Cert.Proof.HgrnSpec Cert.Proof.HgrnMath Cert.Proof.HgrnFinal Cert.Proof.HgrnRefEntry Cert.Proof.HgrnRefLoop
open Idealize.ShloMosaic Idealize.ShloMosaic.TcCoe Idealize.SL.Sem Idealize.ShloMosaic.StableHlo

/-- A query from its input. -/
theorem query_eq (x : EReal) (hx : x = ((x.toReal : ℝ) : EReal)) :
    x * Ideal.div 1 (1 + Ideal.exp (0 - x)) = ((x.toReal * sg ((x.toReal : ℝ) : EReal) : ℝ) : EReal) := by
  rw [(sg_all x).1, EReal.coe_mul, ← hx]

/-- The forget gate from its bound and its input. -/
theorem forget_eq (lam : ℕ → ℝ) (F : ℕ → ℕ → EReal) (n d : ℕ) :
    ((lam d : ℝ) : EReal) + (1 - ((lam d : ℝ) : EReal)) * Ideal.div 1 (1 + Ideal.exp (0 - F n d)) = ((fg lam F n d : ℝ) : EReal) := by
  rw [(sg_all (F n d)).1, HgrnKernel.one_coe, ← EReal.coe_sub, ← EReal.coe_mul, ← EReal.coe_add]
  rfl

variable (m : (ℓ : Loc nD τ sig) → Buf (Elt Ideal) ℓ) (c : Dev nD)

/-- What the first lines leave. -/
def W0 : Valuation τ sig (Elt Ideal) := after hostOps0_1 (after hostOps0 (launchContents m c))

theorem W0_arg (b : Ref sig .tc) (hb : b ∈ RefFrames.argRefs) : W0 m c (Proc.devRef .tc b) = m ((c : Thread nD τ).loc b) :=
  (RefFrames.keeps hostOps0_1_writes (by decide) b hb _).trans (RefFrames.keeps hostOps0_writes (by decide) b hb _)

variable (H : Finite (m ((c : Thread nD τ).loc main_arg0)) (m ((c : Thread nD τ).loc main_arg2)) (m ((c : Thread nD τ).loc main_arg4)))

include H in
/-- The bound of the forget gate of a head, as the first lines leave it. -/
theorem low_eq (h : Fin 4) (d : Fin 128) : (W0 m c (Proc.devRef .tc main_v11) (ix2 0 (alane h.val d.val)) : EReal)
    = ((low (m ((c : Thread nD τ).loc main_arg4)) h.val d.val : ℝ) : EReal) :=
  (congrFun (pre0 m c) _).trans (H.low h.val d.val).2.2

include H in
/-- The loop is entered with the recurrence's inputs and an empty state. -/
theorem entry_held (b : Fin 32) (h : Fin 4) :
    Held (Lg (low (m ((c : Thread nD τ).loc main_arg4)) h.val) (at' (m ((c : Thread nD τ).loc main_arg1)) b.val h.val))
      (Qg (realAt (m ((c : Thread nD τ).loc main_arg0)) b.val h.val))
      (Kg (low (m ((c : Thread nD τ).loc main_arg4)) h.val) (at' (m ((c : Thread nD τ).loc main_arg1)) b.val h.val))
      (realAt (m ((c : Thread nD τ).loc main_arg2)) b.val h.val) b h 0 (entryContents preI m c) where
  ctr := e5 (W0 m c)
  q n s d := by
    refine (e0 (W0 m c) n b h s d).trans ?_
    rw [W0_arg m c main_arg0 (by decide)]
    exact query_eq _ (H.q _)
  l n s d := by
    refine (e1 (W0 m c) n b h s d).trans ?_
    rw [W0_arg m c main_arg1 (by decide)]
    rw [low_eq m c H h]
    refine (congrArg Ideal.log (forget_eq _ (at' (m ((c : Thread nD τ).loc main_arg1)) b.val h.val) (n.val * 64 + s.val) d.val)).trans ?_
    exact log_fg _ (fun d => (H.low _ d).1) (fun d => (H.low _ d).2.1) _ _
  key n s d := by
    refine (e2 (W0 m c) n b h s d).trans ?_
    rw [W0_arg m c main_arg1 (by decide)]
    rw [low_eq m c H h]
    refine (congrArg (fun z : EReal => 1 - z) (forget_eq _ (at' (m ((c : Thread nD τ).loc main_arg1)) b.val h.val) (n.val * 64 + s.val) d.val)).trans ?_
    rw [HgrnKernel.one_coe, ← EReal.coe_sub]
    rfl
  v n s d := by
    refine (e3 (W0 m c) n b h s d).trans ?_
    rw [W0_arg m c main_arg2 (by decide)]
    exact H.v _
  mask t s := e4 (W0 m c) t s
  st d e := by
    refine (e6 (W0 m c) b h d e).trans ?_
    rw [Nat.zero_mul, St_zero]
    rfl
  out n s e hn := absurd hn (Nat.not_lt_zero _)

/-- A buffer neither the loop's condition nor its body writes is as the loop found it. -/
theorem trips_keep (b : Ref sig .tc) (hc : ∀ V : Valuation τ sig (Elt Ideal), after condOps V (Proc.devRef .tc b) = V (Proc.devRef .tc b))
    (hb : ∀ V : Valuation τ sig (Elt Ideal), afterL bodyI V (Proc.devRef .tc b) = V (Proc.devRef .tc b)) (W : Dev nD → Valuation τ sig (Elt Ideal)) (k : ℕ) :
    atTrip condOps bodyI W k c (Proc.devRef .tc b) = W c (Proc.devRef .tc b) := by
  induction k with
  | zero => rfl
  | succ k ih => rw [atTrip_succ, hb, hc, ih]

theorem cond_v17 (V : Valuation τ sig (Elt Ideal)) : after condOps V (Proc.devRef .tc main_v17) = V (Proc.devRef .tc main_v17) :=
  after_of_writes_sub condOps _ condOps_writes (by decide)

theorem body_v17 (V : Valuation τ sig (Elt Ideal)) : afterL bodyI V (Proc.devRef .tc main_v17) = V (Proc.devRef .tc main_v17) :=
  RefFrames.keepsL _ main_v17 (by
    simp only [bodyI, List.Forall]
    exact ⟨fun V => after_of_writes_sub _ V while0Ops0_writes (by decide), fun V => after_of_writes_sub _ V while0Ops0_1_writes (by decide),
      fun V => after_of_writes_sub _ V while0Ops0_2_writes (by decide), fun V => after_of_writes_sub _ V while0Ops0_3_writes (by decide),
      fun V => after_of_writes_sub _ V while0Ops0_4_writes (by decide), fun V => after_of_writes_sub _ V while0Ops0_5_writes (by decide),
      fun V => after_of_writes_sub _ V while0Ops0_6_writes (by decide), fun V => after_of_writes_sub _ V while0Ops0_7_writes (by decide),
      fun V => after_of_writes_sub _ V while0Ops0_8_writes (by decide), fun V => after_of_writes_sub _ V while0Ops0_9_writes (by decide)⟩) V

include H in
/-- The result of the reference's run. -/
theorem final70 : (finalContents condOps preI bodyI postI 32 m c (Proc.devRef .tc main_v70) : FVec Ideal S32x2048x512 .bf16)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext y
  obtain ⟨b, n, l, rfl⟩ : ∃ (b : Fin 32) (n : Fin 2048) (l : Fin 512), y = ix3 b n l := ⟨y 0, y 1, y 2, by idx_vars y⟩
  have hL := Lg_le (at' (m ((c : Thread nD τ).loc main_arg1)) b.val (l.val / 128)) (fun d => (H.low (l.val / 128) d).1) (fun d => (H.low (l.val / 128) d).2.1)
  have I := (entry_held m c H b ⟨l.val / 128, by omega⟩).iterate hL 32 le_rfl
  rw [finalContents]
  refine (post_at _ _ _ _ rfl rfl rfl b n l ⟨n.val / 64, by omega⟩ ⟨l.val / 128, by omega⟩ ⟨n.val % 64, by omega⟩ ⟨l.val % 128, by omega⟩ rfl rfl rfl rfl).trans ?_
  have hA : ∀ x : Fin 128, (after condOps (atTrip condOps bodyI (entryContents preI m) 32 c) (Proc.devRef .tc main_v48_7)
      (ix5 (⟨n.val / 64, by omega⟩ : Fin 32) b (⟨l.val / 128, by omega⟩ : Fin 4) (⟨n.val % 64, by omega⟩ : Fin 64) x) : EReal)
      = ((outs (m ((c : Thread nD τ).loc main_arg0)) (m ((c : Thread nD τ).loc main_arg1)) (m ((c : Thread nD τ).loc main_arg2))
            (m ((c : Thread nD τ).loc main_arg4)) b.val (l.val / 128) n.val x.val : ℝ) : EReal) := by
    intro x
    rw [cond_keeps _ main_v48_7 (by decide), show atTrip condOps bodyI (entryContents preI m) 32 c (Proc.devRef .tc main_v48_7) = _ from atK_agree m c 32 main_v48_7 (by decide)]
    refine (I.out ⟨n.val / 64, by omega⟩ ⟨n.val % 64, by omega⟩ x (by show n.val / 64 < 32; omega)).trans ?_
    unfold outs
    rw [show (⟨n.val / 64, by omega⟩ : Fin 32).val * 64 + (⟨n.val % 64, by omega⟩ : Fin 64).val = n.val from by show n.val / 64 * 64 + n.val % 64 = n.val; omega]
  have hB : after condOps (atTrip condOps bodyI (entryContents preI m) 32 c) (Proc.devRef .tc main_arg5) = m ((c : Thread nD τ).loc main_arg5) := by
    rw [RefFrames.cond_keeps_arg main_arg5 (by decide), RefFrames.trips_keep main_arg5 (by decide), entryContents, RefFrames.pre_keeps main_arg5 (by decide)]
  have hC : (after condOps (atTrip condOps bodyI (entryContents preI m) 32 c) (Proc.devRef .tc main_v17) (ix3 b n l) : EReal)
      = m ((c : Thread nD τ).loc main_arg3) (ix2 (arow b.val n.val) l) := by
    rw [cond_v17, trips_keep c main_v17 cond_v17 body_v17]
    refine (e17 (W0 m c) b n l).trans ?_
    rw [W0_arg m c main_arg3 (by decide)]
  simp only [hA]
  rw [hB, hC]
  rfl

end Cert.Proof.HgrnRefFinal

end

end
-- ==== Proof.HgrnClaim.lean ====
module

public import proofs.«01_k».proof.Defs
public import proofs.«01_k».proof.Proof.HgrnPre
public import proofs.«01_k».proof.Proof.HgrnRefFinal

/-!
  The recurrence (kernel 1): with real queries, values and logits the kernel's run and the reference's run end at the
  same array.
-/

@[expose] public section

set_option maxRecDepth 16384

noncomputable section

open Idealize.ShloMosaic Idealize.ShloMosaic.TcCoe Idealize.SL.Sem

namespace Cert.Proof.HgrnClaim

open Cert.KernelIdeal Cert.KernelIdeal.Gen Cert.Proof.HgrnFrameI

/-- The recurrence's reference runs under the precondition as it does without. -/
theorem frame_pre : Cert.quiescent_ReferenceIdeal_pre_finite_inputs := fun m ρ _ => RefFrames.frame1 m ρ trivial

/-- The recurrence computes its reference. -/
theorem algebraic : Cert.algebraic_KernelIdeal_ReferenceIdeal_pre_finite_inputs := by
  intro m g m' g' hpre hagree
  have H : ∀ c : Dev nD, HgrnFinal.Finite (m ((c : Thread nD τ).loc main_arg0)) (m ((c : Thread nD τ).loc main_arg2)) (m ((c : Thread nD τ).loc main_arg4)) :=
    fun c => HgrnPre.finite_of _ _ _ _ _ _ (hpre c)
  refine ⟨fun c => HgrnFinal.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)), ?_, ?_⟩
  · refine (θ_run _ _ _).mono (fun r h c => ?_) (θ_run_and (HgrnFrameI.run_main m g) (HgrnFrameI.unchanged m g))
    exact ⟨(h.1.out_eq c 7).trans (HgrnFinal.final7 m c (H c)), h.2 c⟩
  · refine (θ_run _ _ _).mono (fun r h c => ?_) (Cert.ReferenceIdeal.Value.run_fold (F := Ideal) m' g')
    obtain ⟨e0, e1, e2, e3, e4, e5⟩ := hagree c
    have H' := H c
    rw [← e0, ← e2, ← e4] at H'
    refine ⟨((h c Cert.ReferenceIdeal.main_v70 (by decide)).trans (HgrnRefFinal.final70 m' c H')).trans ?_,
      (h c Cert.ReferenceIdeal.main_arg0 (by decide)).trans (RefFrames.final_arg m' c _ (by decide)),
      (h c Cert.ReferenceIdeal.main_arg1 (by decide)).trans (RefFrames.final_arg m' c _ (by decide)),
      (h c Cert.ReferenceIdeal.main_arg2 (by decide)).trans (RefFrames.final_arg m' c _ (by decide)),
      (h c Cert.ReferenceIdeal.main_arg3 (by decide)).trans (RefFrames.final_arg m' c _ (by decide)),
      (h c Cert.ReferenceIdeal.main_arg4 (by decide)).trans (RefFrames.final_arg m' c _ (by decide)),
      (h c Cert.ReferenceIdeal.main_arg5 (by decide)).trans (RefFrames.final_arg m' c _ (by decide))⟩
    rw [e0, e1, e2, e3, e4, e5]

end Cert.Proof.HgrnClaim

end

end
-- ==== Proof.InProj.lean ====
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim

/-!
  The input projection (kernel 2).  What one block computes, what the eight arrays hold after the run: the
  normed rows times one slice of the weights each, two of the products being formed transposed.
-/

@[expose] public section

set_option maxRecDepth 16384
noncomputable section
open Idealize.ShloMosaic Idealize.ShloMosaic.TcCoe Idealize.SL.Sem
open Idealize.ShloMosaic.Pipeline (Dat)
namespace Cert.Proof.InProj
open Cert.Kernel2Ideal Cert.Kernel2Ideal.Gen Cert.Reference2Ideal.Read

variable (m : (ℓ : Loc nD τ sig) → Buf (Elt Ideal) ℓ)

/-- The index maps of the windows at every point of the grid. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![t.val, 0]
    ∧ win0_8.index t = ![t.val, 0] ∧ win0_9.index t = ![0, t.val] ∧ win0_10.index t = ![t.val, 0]
    ∧ win0_11.index t = ![t.val, 0] ∧ win0_12.index t = ![t.val, 0] ∧ win0_13.index t = ![t.val, 0]
    ∧ win0_14.index t = ![0, t.val] :=
  (by decide +kernel : ∀ t : Fin grid0.N, _)

/-- The norm's weights, as the block reads them. -/
theorem blk1 (c : Dev nD) (t : Fin cfg0.N) (k : Fin 1) (j : Fin 1024) :
    iblk m c 1 t (ix2 k j) = m ((c : Thread nD τ).loc main_arg1) (ix2 0 j) := by
  blk_simp [iblk, idx t]
  entry_read
  pointwise
  blk_ext [iblk, V, idx t]

/-- The query columns of the weights. -/
theorem blk2 (c : Dev nD) (t : Fin cfg0.N) (k : Fin 1024) (j : Fin 512) :
    iblk m c 2 t (ix2 k j) = m ((c : Thread nD τ).loc main_arg2) (ix3 0 k ⟨j.val, by omega⟩) := by
  blk_simp [iblk, idx t]
  entry_read
  pointwise
  blk_ext [iblk, V, idx t]

/-- The key columns of the weights. -/
theorem blk3 (c : Dev nD) (t : Fin cfg0.N) (k : Fin 1024) (j : Fin 512) :
    iblk m c 3 t (ix2 k j) = m ((c : Thread nD τ).loc main_arg2) (ix3 0 k ⟨512 + j.val, by omega⟩) := by
  blk_simp [iblk, idx t]
  entry_read
  pointwise
  blk_ext [iblk, V, idx t]

/-- The value columns of the weights, transposed. -/
theorem blk4 (c : Dev nD) (t : Fin cfg0.N) (k : Fin 512) (j : Fin 1024) :
    iblk m c 4 t (ix2 k j) = m ((c : Thread nD τ).loc main_arg2) (ix3 0 j ⟨1024 + k.val, by omega⟩) := by
  blk_simp [iblk, idx t]
  entry_read
  pointwise
  blk_ext [iblk, V, idx t]

/-- The columns of the weights for the recurrence. -/
theorem blk5 (c : Dev nD) (t : Fin cfg0.N) (k : Fin 1024) (j : Fin 2048) :
    iblk m c 5 t (ix2 k j) = m ((c : Thread nD τ).loc main_arg2) (ix3 0 k ⟨1536 + j.val, by omega⟩) := by
  blk_simp [iblk, idx t]
  entry_read
  pointwise
  blk_ext [iblk, V, idx t]

/-- The input columns of the recurrence, transposed. -/
theorem blk6 (c : Dev nD) (t : Fin cfg0.N) (k : Fin 512) (j : Fin 1024) :
    iblk m c 6 t (ix2 k j) = m ((c : Thread nD τ).loc main_arg2) (ix3 0 j ⟨2560 + k.val, by omega⟩) := by
  blk_simp [iblk, idx t]
  entry_read
  pointwise
  blk_ext [iblk, V, idx t]

/-- A block of the normed rows is the block of the reference's array. -/
theorem norm (c : Dev nD) (t : Fin cfg0.N) (i : Fin 512) (j : Fin 1024) :
    k0_pay6 (iblk m c 0 t) (iblk m c 1 t) (ix2 i j)
    = val_main_v13 (F := Ideal) (m ((c : Thread nD τ).loc main_arg0)) (m ((c : Thread nD τ).loc main_arg1)) (((cfg0.win 0).blk t).view.emb (ix2 i j)) := by
  pointwise [k0_pay6, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  simp only [blk1]
  blk_point [iblk, V, idx t]

/-- The normed rows, as the later stores name them. -/
theorem norm' (c : Dev nD) (t : Fin cfg0.N) (i : Fin 512) (j : Fin 1024) :
    (k0_pay10 (iblk m c 0 t) (iblk m c 1 t) (iblk m c 2 t) (iblk m c 3 t) (iblk m c 4 t) (iblk m c 5 t) (iblk m c 6 t)) (ix2 i j)
    = val_main_v13 (F := Ideal) (m ((c : Thread nD τ).loc main_arg0)) (m ((c : Thread nD τ).loc main_arg1)) (((cfg0.win 0).blk t).view.emb (ix2 i j)) := by
  refine Eq.trans ?_ (norm m c t i j)
  unfold k0_pay10
  frame_out

/-- A block of the queries of the attention. -/
theorem point7 (c : Dev nD) (t : Fin cfg0.N) (y) :
    k0_pay7 (iblk m c 0 t) (iblk m c 1 t) (iblk m c 2 t) y
    = val_main_v23 (F := Ideal) (m ((c : Thread nD τ).loc main_arg0)) (m ((c : Thread nD τ).loc main_arg1)) (m ((c : Thread nD τ).loc main_arg2))
        (((cfg0.win 7).blk t).view.emb y) := by
  idx_vars y
  pointwise [k0_pay7, val_main_v23, val_main_v16, val_main_v15, val_main_v14]
  simp only [norm, blk2]
  blk_point [iblk, V, idx t]

/-- A block of the keys of the attention. -/
theorem point8 (c : Dev nD) (t : Fin cfg0.N) (y) :
    k0_pay8 (iblk m c 0 t) (iblk m c 1 t) (iblk m c 3 t) y
    = val_main_v24 (F := Ideal) (m ((c : Thread nD τ).loc main_arg0)) (m ((c : Thread nD τ).loc main_arg1)) (m ((c : Thread nD τ).loc main_arg2))
        (((cfg0.win 8).blk t).view.emb y) := by
  idx_vars y
  pointwise [k0_pay8, val_main_v24, val_main_v17, val_main_v15, val_main_v14]
  simp only [norm, blk3]
  blk_point [iblk, V, idx t]

/-- A block of the values of the attention, transposed. -/
theorem point9 (c : Dev nD) (t : Fin cfg0.N) (y) :
    k0_pay9 (iblk m c 0 t) (iblk m c 1 t) (iblk m c 4 t) y
    = val_main_v26 (F := Ideal) (m ((c : Thread nD τ).loc main_arg0)) (m ((c : Thread nD τ).loc main_arg1)) (m ((c : Thread nD τ).loc main_arg2))
        (((cfg0.win 9).blk t).view.emb y) := by
  idx_vars y
  pointwise [k0_pay9, val_main_v26, val_main_v25, val_main_v18, val_main_v15, val_main_v14]
  simp only [norm, blk4]
  refine (Finset.sum_congr rfl fun x _ => mul_comm _ _).trans ?_
  blk_point [iblk, V, idx t]

/-- A block of the queries of the recurrence. -/
theorem point10 (c : Dev nD) (t : Fin cfg0.N) (y) :
    k0_pay1 (k0_pay10 (iblk m c 0 t) (iblk m c 1 t) (iblk m c 2 t) (iblk m c 3 t) (iblk m c 4 t) (iblk m c 5 t) (iblk m c 6 t)) (View.ld (iblk m c 5 t) r0_4) y
    = val_main_v19 (F := Ideal) (m ((c : Thread nD τ).loc main_arg0)) (m ((c : Thread nD τ).loc main_arg1)) (m ((c : Thread nD τ).loc main_arg2))
        (((cfg0.win 10).blk t).view.emb y) := by
  idx_vars y
  pointwise [k0_pay1, val_main_v19, val_main_v15, val_main_v14]
  simp only [norm', blk5]
  blk_point [iblk, V, idx t]

/-- A block of the gate inputs of the recurrence. -/
theorem point11 (c : Dev nD) (t : Fin cfg0.N) (y) :
    k0_pay2 (k0_pay10 (iblk m c 0 t) (iblk m c 1 t) (iblk m c 2 t) (iblk m c 3 t) (iblk m c 4 t) (iblk m c 5 t) (iblk m c 6 t)) (View.ld (iblk m c 5 t) r0_5) y
    = val_main_v20 (F := Ideal) (m ((c : Thread nD τ).loc main_arg0)) (m ((c : Thread nD τ).loc main_arg1)) (m ((c : Thread nD τ).loc main_arg2))
        (((cfg0.win 11).blk t).view.emb y) := by
  idx_vars y
  pointwise [k0_pay2, val_main_v20, val_main_v15, val_main_v14]
  simp only [norm', blk5]
  blk_point [iblk, V, idx t]

/-- A block of the inputs of the recurrence. -/
theorem point12 (c : Dev nD) (t : Fin cfg0.N) (y) :
    k0_pay3 (k0_pay10 (iblk m c 0 t) (iblk m c 1 t) (iblk m c 2 t) (iblk m c 3 t) (iblk m c 4 t) (iblk m c 5 t) (iblk m c 6 t)) (View.ld (iblk m c 5 t) r0_6) y
    = val_main_v21 (F := Ideal) (m ((c : Thread nD τ).loc main_arg0)) (m ((c : Thread nD τ).loc main_arg1)) (m ((c : Thread nD τ).loc main_arg2))
        (((cfg0.win 12).blk t).view.emb y) := by
  idx_vars y
  pointwise [k0_pay3, val_main_v21, val_main_v15, val_main_v14]
  simp only [norm', blk5]
  blk_point [iblk, V, idx t]

/-- A block of the output gates of the recurrence. -/
theorem point13 (c : Dev nD) (t : Fin cfg0.N) (y) :
    k0_pay4 (k0_pay10 (iblk m c 0 t) (iblk m c 1 t) (iblk m c 2 t) (iblk m c 3 t) (iblk m c 4 t) (iblk m c 5 t) (iblk m c 6 t)) (View.ld (iblk m c 5 t) r0_7) y
    = val_main_v22 (F := Ideal) (m ((c : Thread nD τ).loc main_arg0)) (m ((c : Thread nD τ).loc main_arg1)) (m ((c : Thread nD τ).loc main_arg2))
        (((cfg0.win 13).blk t).view.emb y) := by
  idx_vars y
  pointwise [k0_pay4, val_main_v22, val_main_v15, val_main_v14]
  simp only [norm', blk5]
  blk_point [iblk, V, idx t]

/-- A block of the inputs of the recurrence, transposed. -/
theorem point14 (c : Dev nD) (t : Fin cfg0.N) (y) :
    k0_pay5 (k0_pay10 (iblk m c 0 t) (iblk m c 1 t) (iblk m c 2 t) (iblk m c 3 t) (iblk m c 4 t) (iblk m c 5 t) (iblk m c 6 t)) (iblk m c 6 t) y
    = val_main_v28 (F := Ideal) (m ((c : Thread nD τ).loc main_arg0)) (m ((c : Thread nD τ).loc main_arg1)) (m ((c : Thread nD τ).loc main_arg2))
        (((cfg0.win 14).blk t).view.emb y) := by
  idx_vars y
  pointwise [k0_pay5, val_main_v28, val_main_v27, val_main_v21, val_main_v15, val_main_v14]
  simp only [norm', blk6]
  refine (Finset.sum_congr rfl fun x _ => mul_comm _ _).trans ?_
  blk_point [iblk, V, idx t]

/-- The queries of the attention, after the run. -/
theorem final7 (c : Dev nD) : (dats m 0 c).arrAt 7 (cfgs 0).N
    = val_main_v23 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  exact point7 m c t y

/-- The keys of the attention, after the run. -/
theorem final8 (c : Dev nD) : (dats m 0 c).arrAt 8 (cfgs 0).N
    = val_main_v24 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  exact point8 m c t y

/-- The values of the attention, transposed, after the run. -/
theorem final9 (c : Dev nD) : (dats m 0 c).arrAt 9 (cfgs 0).N
    = val_main_v26 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  exact point9 m c t y

/-- The queries of the recurrence, after the run. -/
theorem final10 (c : Dev nD) : (dats m 0 c).arrAt 10 (cfgs 0).N
    = val_main_v19 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; frame_out
  exact point10 m c t y

/-- The gate inputs of the recurrence, after the run. -/
theorem final11 (c : Dev nD) : (dats m 0 c).arrAt 11 (cfgs 0).N
    = val_main_v20 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]; frame_out
  exact point11 m c t y

/-- The inputs of the recurrence, after the run. -/
theorem final12 (c : Dev nD) : (dats m 0 c).arrAt 12 (cfgs 0).N
    = val_main_v21 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  exact point12 m c t y

/-- The output gates of the recurrence, after the run. -/
theorem final13 (c : Dev nD) : (dats m 0 c).arrAt 13 (cfgs 0).N
    = val_main_v22 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]; frame_out
  exact point13 m c t y

/-- The inputs of the recurrence, transposed, after the run. -/
theorem final14 (c : Dev nD) : (dats m 0 c).arrAt 14 (cfgs 0).N
    = val_main_v28 (F := Ideal) (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]; frame_out
  exact point14 m c t y

end Cert.Proof.InProj
end

end
-- ==== Proof.InProjClaim.lean ====
module

public import proofs.«01_k».proof.Proof.InProj
public import proofs.«01_k».proof.Proof.Gen.Reference2Ideal.Run

/-!
  The input projection (kernel 2): the kernel's run and the reference's run end at the same arrays.
-/

@[expose] public section

set_option maxRecDepth 16384
noncomputable section
open Idealize.ShloMosaic Idealize.ShloMosaic.TcCoe Idealize.SL.Sem
namespace Cert.Proof.InProj
open Cert.Kernel2Ideal Cert.Kernel2Ideal.Gen Cert.Reference2Ideal.Read

set_option maxHeartbeats 1600000 in
/-- The input projection computes its reference. -/
theorem algebraic : Cert.algebraic_Kernel2Ideal_Reference2Ideal := by
  pair_intro
  · run_from Cert.Kernel2Ideal.Gen.run_main m g
  · refine (θ_run _ _ _).mono (fun _ h c => ?_) (Cert.Reference2Ideal.Value.run m' g')
    obtain ⟨h7, h8, h9, h10, h11, h12, h13, h14, k0, k1, k2⟩ := h c
    obtain ⟨e0, e1, e2⟩ := hagree c
    refine ⟨(h7.trans (val_main_v23_eq _ _ _)).trans ?_,
      (h8.trans (val_main_v24_eq _ _ _)).trans ?_,
      (h9.trans (val_main_v26_eq _ _ _)).trans ?_,
      (h10.trans (val_main_v19_eq _ _ _)).trans ?_,
      (h11.trans (val_main_v20_eq _ _ _)).trans ?_,
      (h12.trans (val_main_v21_eq _ _ _)).trans ?_,
      (h13.trans (val_main_v22_eq _ _ _)).trans ?_,
      (h14.trans (val_main_v28_eq _ _ _)).trans ?_, k0, k1, k2⟩
    · rw [e0, e1, e2]; exact (final7 m c).symm
    · rw [e0, e1, e2]; exact (final8 m c).symm
    · rw [e0, e1, e2]; exact (final9 m c).symm
    · rw [e0, e1, e2]; exact (final10 m c).symm
    · rw [e0, e1, e2]; exact (final11 m c).symm
    · rw [e0, e1, e2]; exact (final12 m c).symm
    · rw [e0, e1, e2]; exact (final13 m c).symm
    · rw [e0, e1, e2]; exact (final14 m c).symm

end Cert.Proof.InProj
end

end
-- ==== Proof.OutProj.lean ====
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim

/-!
  The output projection (kernel 3).  What one block computes, what the arrays hold after the run, and the
  equation with the reference: at the ideal instance both sides are the same sums, the kernel's product being
  cut in two halves of 512 columns where the reference concatenates the two operands.
-/

@[expose] public section

set_option maxRecDepth 16384
noncomputable section
open Idealize.ShloMosaic Idealize.ShloMosaic.TcCoe Idealize.SL.Sem
open Idealize.ShloMosaic.Pipeline (Dat)
namespace Cert.Proof.OutProj
open Cert.Kernel3Ideal Cert.Kernel3Ideal.Gen

variable (m : (ℓ : Loc nD τ sig) → Buf (Elt Ideal) ℓ)

/-- The index maps of the windows at every point of the grid. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![t.val, 0]
    ∧ win0_8.index t = ![0, t.val] ∧ win0_9.index t = ![t.val, 0] :=
  (by decide +kernel : ∀ t : Fin grid0.N, _)

/-- The residual stream: the input plus the projection of the two halves. -/
abbrev H (x : FVec Ideal Cert.Reference3Ideal.S65536x1024 .f32) (a r : FVec Ideal Cert.Reference3Ideal.S65536x512 .bf16)
    (w : FVec Ideal Cert.Reference3Ideal.S1x1024x1024 .f32) : FVec Ideal Cert.Reference3Ideal.S65536x1024 .f32 :=
  Cert.Reference3Ideal.Read.val_main_v5 (F := Ideal) x a r w

/-- The upper half of the projection, as the block reads it. -/
theorem blk3 (c : Dev nD) (t : Fin cfg0.N) (k : Fin 512) (j : Fin 1024) :
    iblk m c 3 t (ix2 k j) = m ((c : Thread nD τ).loc main_arg3) (ix3 0 ⟨k.val, by omega⟩ j) := by
  blk_simp [iblk, idx t]
  entry_read
  pointwise
  blk_ext [iblk, V, idx t]

/-- The lower half of the projection, as the block reads it. -/
theorem blk4 (c : Dev nD) (t : Fin cfg0.N) (k : Fin 512) (j : Fin 1024) :
    iblk m c 4 t (ix2 k j) = m ((c : Thread nD τ).loc main_arg3) (ix3 0 ⟨512 + k.val, by omega⟩ j) := by
  blk_simp [iblk, idx t]
  entry_read
  pointwise
  blk_ext [iblk, V, idx t]

/-- The norm's weights, as the block reads them. -/
theorem blk5 (c : Dev nD) (t : Fin cfg0.N) (k : Fin 1) (j : Fin 1024) :
    iblk m c 5 t (ix2 k j) = m ((c : Thread nD τ).loc main_arg4) (ix2 0 j) := by
  blk_simp [iblk, idx t]
  entry_read
  pointwise
  blk_ext [iblk, V, idx t]

/-- The query projection, as the block reads it. -/
theorem blk6 (c : Dev nD) (t : Fin cfg0.N) (k : Fin 1024) (j : Fin 2048) :
    iblk m c 6 t (ix2 k j) = m ((c : Thread nD τ).loc main_arg5) (ix3 0 k j) := by
  blk_simp [iblk, idx t]
  entry_read
  pointwise
  blk_ext [iblk, V, idx t]

open Cert.Reference3Ideal.Read in
/-- A block of the residual stream is the block of the reference's array. -/
theorem point7 (c : Dev nD) (t : Fin cfg0.N) (y) :
    k0_pay2 (iblk m c 0 t) (iblk m c 1 t) (iblk m c 3 t) (iblk m c 2 t) (iblk m c 4 t) y
    = H (m ((c : Thread nD τ).loc main_arg0)) (m ((c : Thread nD τ).loc main_arg1)) (m ((c : Thread nD τ).loc main_arg2))
        (m ((c : Thread nD τ).loc main_arg3)) (((cfg0.win 7).blk t).view.emb y) := by
  idx_vars y
  pointwise [k0_pay2, H, val_main_v5, val_main_v4, val_main_v3, val_main_v2, val_main_v1, val_main_v0]
  rw [add_assoc]
  simp only [blk3, blk4]
  blk_point [iblk, V, idx t]

open Cert.Reference3Ideal.Read in
/-- A row of the normed stream is the row of the reference's array. -/
theorem point3 (c : Dev nD) (t : Fin cfg0.N) (i : Fin 512) (j : Fin 1024) :
    k0_pay3 (iblk m c 0 t) (iblk m c 1 t) (iblk m c 3 t) (iblk m c 2 t) (iblk m c 4 t) (iblk m c 5 t) (ix2 i j)
    = val_main_v19 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 7).blk t).view.emb (ix2 i j)) := by
  pointwise [k0_pay3, val_main_v19, val_main_v18, val_main_v17, val_main_v16, val_main_v15, val_main_v14,
    val_main_v13, val_main_v12, val_main_cst_1, val_main_v11, val_main_v10, val_main_cst_0, val_main_v9, val_main_v8, val_main_cst,
    val_main_v7, val_main_v6]
  simp only [point7, blk5]
  blk_point [iblk, V, idx t]

open Cert.Reference3Ideal.Read in
/-- A transposed block of the normed stream. -/
theorem point8 (c : Dev nD) (t : Fin cfg0.N) (y) :
    k0_pay4 (iblk m c 0 t) (iblk m c 1 t) (iblk m c 3 t) (iblk m c 2 t) (iblk m c 4 t) (iblk m c 5 t) y
    = val_main_v23 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 8).blk t).view.emb y) := by
  idx_vars y
  pointwise [k0_pay4, val_main_v23, val_main_v22]
  rw [point3]
  blk_point [iblk, V, idx t]

open Cert.Reference3Ideal.Read in
/-- A block of the queries. -/
theorem point9 (c : Dev nD) (t : Fin cfg0.N) (y) :
    k0_pay1 (k0_pay5 (iblk m c 0 t) (iblk m c 1 t) (iblk m c 3 t) (iblk m c 2 t) (iblk m c 4 t) (iblk m c 5 t) (iblk m c 6 t)) y
    = val_main_v24 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (((cfg0.win 9).blk t).view.emb y) := by
  idx_vars y
  pointwise [k0_pay1, k0_pay5, val_main_v24, val_main_v21, val_main_v20]
  simp only [point3, blk6]
  blk_point [iblk, V, idx t]

/-- The residual stream after the run. -/
theorem final7 (c : Dev nD) : (dats m 0 c).arrAt 7 (cfgs 0).N
    = Cert.Reference3Ideal.Read.val_main_v5 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]; frame_out
  exact point7 m c t y

/-- The transposed normed stream after the run. -/
theorem final8 (c : Dev nD) : (dats m 0 c).arrAt 8 (cfgs 0).N
    = Cert.Reference3Ideal.Read.val_main_v23 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  rw [after0_8]; frame_out
  exact point8 m c t y

/-- The queries after the run. -/
theorem final9 (c : Dev nD) : (dats m 0 c).arrAt 9 (cfgs 0).N
    = Cert.Reference3Ideal.Read.val_main_v24 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]; frame_out
  exact point9 m c t y

end Cert.Proof.OutProj
end

end
-- ==== Proof.OutProjClaim.lean ====
module

public import proofs.«01_k».proof.Proof.OutProj
public import proofs.«01_k».proof.Proof.Gen.Reference3Ideal.Run

/-!
  The output projection (kernel 3): the kernel's run and the reference's run end at the same arrays.
-/

@[expose] public section

set_option maxRecDepth 16384
noncomputable section
open Idealize.ShloMosaic Idealize.ShloMosaic.TcCoe Idealize.SL.Sem
namespace Cert.Proof.OutProj
open Cert.Kernel3Ideal Cert.Kernel3Ideal.Gen Cert.Reference3Ideal.Read

set_option maxHeartbeats 1600000 in
/-- The output projection computes its reference. -/
theorem algebraic : Cert.algebraic_Kernel3Ideal_Reference3Ideal := by
  pair_intro
  · run_from Cert.Kernel3Ideal.Gen.run_main m g
  · refine (θ_run _ _ _).mono (fun _ h c => ?_) (Cert.Reference3Ideal.Value.run m' g')
    obtain ⟨h5, h23, h24, k0, k1, k2, k3, k4, k5⟩ := h c
    obtain ⟨e0, e1, e2, e3, e4, e5⟩ := hagree c
    refine ⟨(h5.trans (val_main_v5_eq _ _ _ _)).trans ?_, (h23.trans (val_main_v23_eq _ _ _ _ _)).trans ?_,
      (h24.trans (val_main_v24_eq _ _ _ _ _ _)).trans ?_, k0, k1, k2, k3, k4, k5⟩
    · rw [e0, e1, e2, e3]; exact (final7 m c).symm
    · rw [e0, e1, e2, e3, e4]; exact (final8 m c).symm
    · rw [e0, e1, e2, e3, e4, e5]; exact (final9 m c).symm

end Cert.Proof.OutProj
end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.HgrnFrame
public import proofs.«01_k».proof.Proof.RefFrames
public import proofs.«01_k».proof.Proof.HgrnFrameI
public import proofs.«01_k».proof.Proof.HgrnClaim
public import proofs.«01_k».proof.Proof.InProjClaim
public import proofs.«01_k».proof.Proof.OutProjClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Proof.HgrnPre.facts,
  fun m ρ _ => Cert.Proof.HgrnFrame.frame m ρ, fun m ρ _ => Cert.Proof.HgrnFrameI.frame m ρ, fun m ρ _ => Cert.Proof.HgrnFrameI.frame m ρ,
  Cert.Proof.RefFrames.frame1, Cert.Proof.HgrnClaim.frame_pre,
  fun m ρ _ => Cert.Kernel2.Gen.frame m ρ, fun m ρ _ => Cert.Kernel2Ideal.Gen.frame m ρ,
  Cert.Proof.RefFrames.frame2,
  fun m ρ _ => Cert.Kernel3.Gen.frame m ρ, fun m ρ _ => Cert.Kernel3Ideal.Gen.frame m ρ,
  Cert.Proof.RefFrames.frame3,
  trivial, Cert.Proof.HgrnClaim.algebraic, trivial, Cert.Proof.InProj.algebraic, trivial, Cert.Proof.OutProj.algebraic⟩

end Cert.Proof

end
